-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S4096x50x7 : Shape := ⟨3, ![4096, 50, 7]⟩
abbrev S4096x50x1 : Shape := ⟨3, ![4096, 50, 1]⟩
abbrev S5x16 : Shape := ⟨2, ![5, 16]⟩
abbrev S3x8 : Shape := ⟨2, ![3, 8]⟩
abbrev S4x8 : Shape := ⟨2, ![4, 8]⟩
abbrev S6x16 : Shape := ⟨2, ![6, 16]⟩
abbrev S10x24 : Shape := ⟨2, ![10, 24]⟩
abbrev S19x32 : Shape := ⟨2, ![19, 32]⟩
abbrev S1x16 : Shape := ⟨2, ![1, 16]⟩
abbrev S16 : Shape := ⟨1, ![16]⟩
abbrev S128x256 : Shape := ⟨2, ![128, 256]⟩
abbrev S256 : Shape := ⟨1, ![256]⟩
abbrev S_ : Shape := ⟨0, ![]⟩
abbrev S16x256 : Shape := ⟨2, ![16, 256]⟩

class Facts : Prop where
  slices_S4096x50x7_S4096x50x1_0_0_0 : S4096x50x7.Slices ![0, 0, 0] S4096x50x1
  bcast_S_S4096x50x1 : S_.BroadcastsInDim S4096x50x1 (![] : Fin 0 → Fin S4096x50x1.rank)
  slices_S4096x50x7_S4096x50x1_0_0_1 : S4096x50x7.Slices ![0, 0, 1] S4096x50x1
  slices_S4096x50x7_S4096x50x1_0_0_2 : S4096x50x7.Slices ![0, 0, 2] S4096x50x1
  slices_S4096x50x7_S4096x50x1_0_0_3 : S4096x50x7.Slices ![0, 0, 3] S4096x50x1
  slices_S4096x50x7_S4096x50x1_0_0_4 : S4096x50x7.Slices ![0, 0, 4] S4096x50x1
  slices_S4096x50x7_S4096x50x1_0_0_5 : S4096x50x7.Slices ![0, 0, 5] S4096x50x1
  slices_S4096x50x7_S4096x50x1_0_0_6 : S4096x50x7.Slices ![0, 0, 6] S4096x50x1
  slices_S128x256_S16x256_112_0 : S128x256.Slices ![112, 0] S16x256
  bcast_S_S1x16 : S_.BroadcastsInDim S1x16 (![] : Fin 0 → Fin S1x16.rank)
  bcast_S_S16x256 : S_.BroadcastsInDim S16x256 (![] : Fin 0 → Fin S16x256.rank)
  bcast_S_S4096x50x7 : S_.BroadcastsInDim S4096x50x7 (![] : Fin 0 → Fin S4096x50x7.rank)

variable [Facts]

def fn_part2 {F : FTy → Type} [FloatOps F] (main_arg0 : IVec S4096x50x7 32) (main_v2 : IVec S4096x50x1 1) (main_v5 : IVec S4096x50x1 1) (main_v8 : IVec S4096x50x1 1) (main_v11 : IVec S4096x50x1 1) (main_v14 : IVec S4096x50x1 1) (main_v17 : IVec S4096x50x1 1) (main_v20 : IVec S4096x50x1 1) (main_v21 : FVec F S16x256 .f32) (main_v26 : IVec S4096x50x1 1) (main_v31 : IVec S1x16 1) (main_v33 : IVec S16x256 1) (main_v34 : FVec F S16x256 .f32) : IVec S4096x50x7 1 × IVec S4096x50x1 1 × IVec S4096x50x1 1 × IVec S4096x50x1 1 × IVec S4096x50x1 1 × IVec S4096x50x1 1 × IVec S4096x50x1 1 × IVec S4096x50x1 1 × IVec S4096x50x1 1 × IVec S1x16 1 × IVec S16x256 1 :=
  let main_v35 : IVec S16x256 1 := cmpf .olt main_v21 main_v34
  let main_v36 : IVec S16x256 1 := andi main_v33 main_v35
  let main_c_11 : IVec S_ 32 := constantI S_ 32 0#32
  let main_v37 : IVec S4096x50x7 32 := broadcastInDim S4096x50x7 ![] bcast_S_S4096x50x7 main_c_11
  let main_v38 : IVec S4096x50x7 1 := cmpi .sge main_arg0 main_v37
  (main_v38, main_v2, main_v5, main_v8, main_v11, main_v14, main_v17, main_v20, main_v26, main_v31, main_v36)

def fn_part1 {F : FTy → Type} [FloatOps F] (main_arg0 : IVec S4096x50x7 32) (main_arg1 : FVec F S4096x50x1 .f32) (main_arg9 : FVec F S1x16 .f32) (main_arg11 : FVec F S128x256 .f32) (main_v2 : IVec S4096x50x1 1) (main_v5 : IVec S4096x50x1 1) (main_v8 : IVec S4096x50x1 1) (main_v11 : IVec S4096x50x1 1) (main_v14 : IVec S4096x50x1 1) (main_v17 : IVec S4096x50x1 1) : IVec S4096x50x7 1 × IVec S4096x50x1 1 × IVec S4096x50x1 1 × IVec S4096x50x1 1 × IVec S4096x50x1 1 × IVec S4096x50x1 1 × IVec S4096x50x1 1 × IVec S4096x50x1 1 × IVec S4096x50x1 1 × IVec S1x16 1 × IVec S16x256 1 :=
  let main_v18 : IVec S4096x50x1 32 := (extractStridedSlice S4096x50x1 ![0, 0, 6] · slices_S4096x50x7_S4096x50x1_0_0_6) main_arg0
  let main_c_5 : IVec S_ 32 := constantI S_ 32 4#32
  let main_v19 : IVec S4096x50x1 32 := broadcastInDim S4096x50x1 ![] bcast_S_S4096x50x1 main_c_5
  let main_v20 : IVec S4096x50x1 1 := cmpi .slt main_v18 main_v19
  let main_v21 : FVec F S16x256 .f32 := (extractStridedSlice S16x256 ![112, 0] · slices_S128x256_S16x256_112_0) main_arg11
  let main_cst : FVec F S_ .f32 := constant S_ .f32 0xFF800000#32
  let main_v22 : FVec F S4096x50x1 .f32 := broadcastInDim S4096x50x1 ![] bcast_S_S4096x50x1 main_cst
  let main_v23 : IVec S4096x50x1 1 := cmpf .ogt main_arg1 main_v22
  let main_cst_6 : FVec F S_ .f32 := constant S_ .f32 0x7F800000#32
  let main_v24 : FVec F S4096x50x1 .f32 := broadcastInDim S4096x50x1 ![] bcast_S_S4096x50x1 main_cst_6
  let main_v25 : IVec S4096x50x1 1 := cmpf .olt main_arg1 main_v24
  let main_v26 : IVec S4096x50x1 1 := andi main_v23 main_v25
  let main_cst_7 : FVec F S_ .f32 := constant S_ .f32 0xFF800000#32
  let main_v27 : FVec F S1x16 .f32 := broadcastInDim S1x16 ![] bcast_S_S1x16 main_cst_7
  let main_v28 : IVec S1x16 1 := cmpf .ogt main_arg9 main_v27
  let main_cst_8 : FVec F S_ .f32 := constant S_ .f32 0x7F800000#32
  let main_v29 : FVec F S1x16 .f32 := broadcastInDim S1x16 ![] bcast_S_S1x16 main_cst_8
  let main_v30 : IVec S1x16 1 := cmpf .olt main_arg9 main_v29
  let main_v31 : IVec S1x16 1 := andi main_v28 main_v30
  let main_cst_9 : FVec F S_ .f32 := constant S_ .f32 0xFF800000#32
  let main_v32 : FVec F S16x256 .f32 := broadcastInDim S16x256 ![] bcast_S_S16x256 main_cst_9
  let main_v33 : IVec S16x256 1 := cmpf .ogt main_v21 main_v32
  let main_cst_10 : FVec F S_ .f32 := constant S_ .f32 0x7F800000#32
  let main_v34 : FVec F S16x256 .f32 := broadcastInDim S16x256 ![] bcast_S_S16x256 main_cst_10
  fn_part2 (F := F) main_arg0 main_v2 main_v5 main_v8 main_v11 main_v14 main_v17 main_v20 main_v21 main_v26 main_v31 main_v33 main_v34

def fn {F : FTy → Type} [FloatOps F] (main_arg0 : IVec S4096x50x7 32) (main_arg1 : FVec F S4096x50x1 .f32) (main_arg2 : FVec F S5x16 .f32) (main_arg3 : FVec F S3x8 .f32) (main_arg4 : FVec F S4x8 .f32) (main_arg5 : FVec F S6x16 .f32) (main_arg6 : FVec F S10x24 .f32) (main_arg7 : FVec F S19x32 .f32) (main_arg8 : FVec F S4x8 .f32) (main_arg9 : FVec F S1x16 .f32) (main_arg10 : FVec F S16 .f32) (main_arg11 : FVec F S128x256 .f32) (main_arg12 : FVec F S256 .f32) (main_arg13 : FVec F S256 .f32) (main_arg14 : FVec F S256 .f32) : IVec S4096x50x7 1 × IVec S4096x50x1 1 × IVec S4096x50x1 1 × IVec S4096x50x1 1 × IVec S4096x50x1 1 × IVec S4096x50x1 1 × IVec S4096x50x1 1 × IVec S4096x50x1 1 × IVec S4096x50x1 1 × IVec S1x16 1 × IVec S16x256 1 :=
  let main_v0 : IVec S4096x50x1 32 := (extractStridedSlice S4096x50x1 ![0, 0, 0] · slices_S4096x50x7_S4096x50x1_0_0_0) main_arg0
  let main_c : IVec S_ 32 := constantI S_ 32 5#32
  let main_v1 : IVec S4096x50x1 32 := broadcastInDim S4096x50x1 ![] bcast_S_S4096x50x1 main_c
  let main_v2 : IVec S4096x50x1 1 := cmpi .slt main_v0 main_v1
  let main_v3 : IVec S4096x50x1 32 := (extractStridedSlice S4096x50x1 ![0, 0, 1] · slices_S4096x50x7_S4096x50x1_0_0_1) main_arg0
  let main_c_0 : IVec S_ 32 := constantI S_ 32 3#32
  let main_v4 : IVec S4096x50x1 32 := broadcastInDim S4096x50x1 ![] bcast_S_S4096x50x1 main_c_0
  let main_v5 : IVec S4096x50x1 1 := cmpi .slt main_v3 main_v4
  let main_v6 : IVec S4096x50x1 32 := (extractStridedSlice S4096x50x1 ![0, 0, 2] · slices_S4096x50x7_S4096x50x1_0_0_2) main_arg0
  let main_c_1 : IVec S_ 32 := constantI S_ 32 4#32
  let main_v7 : IVec S4096x50x1 32 := broadcastInDim S4096x50x1 ![] bcast_S_S4096x50x1 main_c_1
  let main_v8 : IVec S4096x50x1 1 := cmpi .slt main_v6 main_v7
  let main_v9 : IVec S4096x50x1 32 := (extractStridedSlice S4096x50x1 ![0, 0, 3] · slices_S4096x50x7_S4096x50x1_0_0_3) main_arg0
  let main_c_2 : IVec S_ 32 := constantI S_ 32 6#32
  let main_v10 : IVec S4096x50x1 32 := broadcastInDim S4096x50x1 ![] bcast_S_S4096x50x1 main_c_2
  let main_v11 : IVec S4096x50x1 1 := cmpi .slt main_v9 main_v10
  let main_v12 : IVec S4096x50x1 32 := (extractStridedSlice S4096x50x1 ![0, 0, 4] · slices_S4096x50x7_S4096x50x1_0_0_4) main_arg0
  let main_c_3 : IVec S_ 32 := constantI S_ 32 10#32
  let main_v13 : IVec S4096x50x1 32 := broadcastInDim S4096x50x1 ![] bcast_S_S4096x50x1 main_c_3
  let main_v14 : IVec S4096x50x1 1 := cmpi .slt main_v12 main_v13
  let main_v15 : IVec S4096x50x1 32 := (extractStridedSlice S4096x50x1 ![0, 0, 5] · slices_S4096x50x7_S4096x50x1_0_0_5) main_arg0
  let main_c_4 : IVec S_ 32 := constantI S_ 32 19#32
  let main_v16 : IVec S4096x50x1 32 := broadcastInDim S4096x50x1 ![] bcast_S_S4096x50x1 main_c_4
  let main_v17 : IVec S4096x50x1 1 := cmpi .slt main_v15 main_v16
  fn_part1 (F := F) main_arg0 main_arg1 main_arg9 main_arg11 main_v2 main_v5 main_v8 main_v11 main_v14 main_v17
-- ==== Kernel.lean ====
abbrev S4096x50x7 : Shape := ⟨3, ![4096, 50, 7]⟩
abbrev S4096x50x1 : Shape := ⟨3, ![4096, 50, 1]⟩
abbrev S5x16 : Shape := ⟨2, ![5, 16]⟩
abbrev S3x8 : Shape := ⟨2, ![3, 8]⟩
abbrev S4x8 : Shape := ⟨2, ![4, 8]⟩
abbrev S6x16 : Shape := ⟨2, ![6, 16]⟩
abbrev S10x24 : Shape := ⟨2, ![10, 24]⟩
abbrev S19x32 : Shape := ⟨2, ![19, 32]⟩
abbrev S1x16 : Shape := ⟨2, ![1, 16]⟩
abbrev S16 : Shape := ⟨1, ![16]⟩
abbrev S128x256 : Shape := ⟨2, ![128, 256]⟩
abbrev S256 : Shape := ⟨1, ![256]⟩
abbrev S8x64 : Shape := ⟨2, ![8, 64]⟩
abbrev S1x64 : Shape := ⟨2, ![1, 64]⟩
abbrev S4096x50x8 : Shape := ⟨3, ![4096, 50, 8]⟩
abbrev S4096x400 : Shape := ⟨2, ![4096, 400]⟩
abbrev S_ : Shape := ⟨0, ![]⟩
abbrev S64x128 : Shape := ⟨2, ![64, 128]⟩
abbrev S1x256 : Shape := ⟨2, ![1, 256]⟩
abbrev S50x4096x256 : Shape := ⟨3, ![50, 4096, 256]⟩
abbrev S4096x50x256 : Shape := ⟨3, ![4096, 50, 256]⟩
abbrev S512x400 : Shape := ⟨2, ![512, 400]⟩
abbrev S50x512x256 : Shape := ⟨3, ![50, 512, 256]⟩
abbrev S64x256 : Shape := ⟨2, ![64, 256]⟩
abbrev S64x1 : Shape := ⟨2, ![64, 1]⟩
abbrev S512x64 : Shape := ⟨2, ![512, 64]⟩
abbrev S512x8 : Shape := ⟨2, ![512, 8]⟩
abbrev S512x256 : Shape := ⟨2, ![512, 256]⟩
abbrev S512 : Shape := ⟨1, ![512]⟩
abbrev S512x1 : Shape := ⟨2, ![512, 1]⟩
abbrev S1x512x256 : Shape := ⟨3, ![1, 512, 256]⟩

abbrev nBuf : Space → Nat
  | .hbm => 55
  | .vmem => 12
  | .smem => 0
  | _ => 0

abbrev bufTy : (tb : Table) → Fin (tcTables nBuf tb) → BufTy
  | .hbm, ⟨0, _⟩ => ⟨S4096x50x7, .i32⟩
  | .hbm, ⟨1, _⟩ => ⟨S4096x50x1, .f32⟩
  | .hbm, ⟨2, _⟩ => ⟨S5x16, .f32⟩
  | .hbm, ⟨3, _⟩ => ⟨S3x8, .f32⟩
  | .hbm, ⟨4, _⟩ => ⟨S4x8, .f32⟩
  | .hbm, ⟨5, _⟩ => ⟨S6x16, .f32⟩
  | .hbm, ⟨6, _⟩ => ⟨S10x24, .f32⟩
  | .hbm, ⟨7, _⟩ => ⟨S19x32, .f32⟩
  | .hbm, ⟨8, _⟩ => ⟨S4x8, .f32⟩
  | .hbm, ⟨9, _⟩ => ⟨S1x16, .f32⟩
  | .hbm, ⟨10, _⟩ => ⟨S16, .f32⟩
  | .hbm, ⟨11, _⟩ => ⟨S128x256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S8x64, .f32⟩
  | .hbm, ⟨16, _⟩ => ⟨S1x64, .f32⟩
  | .hbm, ⟨17, _⟩ => ⟨S4096x50x7, .f32⟩
  | .hbm, ⟨18, _⟩ => ⟨S4096x50x8, .f32⟩
  | .hbm, ⟨19, _⟩ => ⟨S4096x400, .f32⟩
  | .hbm, ⟨20, _⟩ => ⟨S_, .f32⟩
  | .hbm, ⟨21, _⟩ => ⟨S64x128, .f32⟩
  | .hbm, ⟨22, _⟩ => ⟨S_, .i32⟩
  | .hbm, ⟨23, _⟩ => ⟨S_, .i32⟩
  | .hbm, ⟨24, _⟩ => ⟨S64x128, .f32⟩
  | .hbm, ⟨25, _⟩ => ⟨S_, .i32⟩
  | .hbm, ⟨26, _⟩ => ⟨S_, .i32⟩
  | .hbm, ⟨27, _⟩ => ⟨S64x128, .f32⟩
  | .hbm, ⟨28, _⟩ => ⟨S_, .i32⟩
  | .hbm, ⟨29, _⟩ => ⟨S_, .i32⟩
  | .hbm, ⟨30, _⟩ => ⟨S64x128, .f32⟩
  | .hbm, ⟨31, _⟩ => ⟨S_, .i32⟩
  | .hbm, ⟨32, _⟩ => ⟨S_, .i32⟩
  | .hbm, ⟨33, _⟩ => ⟨S64x128, .f32⟩
  | .hbm, ⟨34, _⟩ => ⟨S_, .i32⟩
  | .hbm, ⟨35, _⟩ => ⟨S_, .i32⟩
  | .hbm, ⟨36, _⟩ => ⟨S64x128, .f32⟩
  | .hbm, ⟨37, _⟩ => ⟨S_, .i32⟩
  | .hbm, ⟨38, _⟩ => ⟨S_, .i32⟩
  | .hbm, ⟨39, _⟩ => ⟨S64x128, .f32⟩
  | .hbm, ⟨40, _⟩ => ⟨S_, .i32⟩
  | .hbm, ⟨41, _⟩ => ⟨S_, .i32⟩
  | .hbm, ⟨42, _⟩ => ⟨S64x128, .f32⟩
  | .hbm, ⟨43, _⟩ => ⟨S_, .i32⟩
  | .hbm, ⟨44, _⟩ => ⟨S_, .i32⟩
  | .hbm, ⟨45, _⟩ => ⟨S64x128, .f32⟩
  | .hbm, ⟨46, _⟩ => ⟨S1x16, .f32⟩
  | .hbm, ⟨47, _⟩ => ⟨S_, .i32⟩
  | .hbm, ⟨48, _⟩ => ⟨S_, .i32⟩
  | .hbm, ⟨49, _⟩ => ⟨S64x128, .f32⟩
  | .hbm, ⟨50, _⟩ => ⟨S1x256, .f32⟩
  | .hbm, ⟨51, _⟩ => ⟨S1x256, .f32⟩
  | .hbm, ⟨52, _⟩ => ⟨S1x256, .f32⟩
  | .hbm, ⟨53, _⟩ => ⟨S50x4096x256, .f32⟩
  | .hbm, ⟨54, _⟩ => ⟨S4096x50x256, .f32⟩
  | .local _ .vmem, ⟨0, _⟩ => ⟨S512x400, .f32⟩
  | .local _ .vmem, ⟨1, _⟩ => ⟨S512x400, .f32⟩
  | .local _ .vmem, ⟨2, _⟩ => ⟨S64x128, .f32⟩
  | .local _ .vmem, ⟨3, _⟩ => ⟨S128x256, .f32⟩
  | .local _ .vmem, ⟨4, _⟩ => ⟨S1x256, .f32⟩
  | .local _ .vmem, ⟨5, _⟩ => ⟨S8x64, .f32⟩
  | .local _ .vmem, ⟨6, _⟩ => ⟨S1x64, .f32⟩
  | .local _ .vmem, ⟨7, _⟩ => ⟨S1x256, .f32⟩
  | .local _ .vmem, ⟨8, _⟩ => ⟨S1x256, .f32⟩
  | .local _ .vmem, ⟨9, _⟩ => ⟨S50x512x256, .f32⟩
  | .local _ .vmem, ⟨10, _⟩ => ⟨S50x512x256, .f32⟩
  | .local _ .vmem, ⟨11, _⟩ => ⟨S64x256, .f32⟩
  | _, _ => ⟨S4096x50x7, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_cst : Ref sig .tc := ⟨.hbm, 15, rfl⟩
abbrev main_call0_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_cst_1 : Ref sig .tc := ⟨.hbm, 20, rfl⟩
abbrev main_call0_v3 : Ref sig .tc := ⟨.hbm, 21, rfl⟩
abbrev main_call0_c : Ref sig .tc := ⟨.hbm, 22, rfl⟩
abbrev main_call0_c_2 : Ref sig .tc := ⟨.hbm, 23, rfl⟩
abbrev main_call0_v4 : Ref sig .tc := ⟨.hbm, 24, rfl⟩
abbrev main_call0_c_3 : Ref sig .tc := ⟨.hbm, 25, rfl⟩
abbrev main_call0_c_4 : Ref sig .tc := ⟨.hbm, 26, rfl⟩
abbrev main_call0_v5 : Ref sig .tc := ⟨.hbm, 27, rfl⟩
abbrev main_call0_c_5 : Ref sig .tc := ⟨.hbm, 28, rfl⟩
abbrev main_call0_c_6 : Ref sig .tc := ⟨.hbm, 29, rfl⟩
abbrev main_call0_v6 : Ref sig .tc := ⟨.hbm, 30, rfl⟩
abbrev main_call0_c_7 : Ref sig .tc := ⟨.hbm, 31, rfl⟩
abbrev main_call0_c_8 : Ref sig .tc := ⟨.hbm, 32, rfl⟩
abbrev main_call0_v7 : Ref sig .tc := ⟨.hbm, 33, rfl⟩
abbrev main_call0_c_9 : Ref sig .tc := ⟨.hbm, 34, rfl⟩
abbrev main_call0_c_10 : Ref sig .tc := ⟨.hbm, 35, rfl⟩
abbrev main_call0_v8 : Ref sig .tc := ⟨.hbm, 36, rfl⟩
abbrev main_call0_c_11 : Ref sig .tc := ⟨.hbm, 37, rfl⟩
abbrev main_call0_c_12 : Ref sig .tc := ⟨.hbm, 38, rfl⟩
abbrev main_call0_v9 : Ref sig .tc := ⟨.hbm, 39, rfl⟩
abbrev main_call0_c_13 : Ref sig .tc := ⟨.hbm, 40, rfl⟩
abbrev main_call0_c_14 : Ref sig .tc := ⟨.hbm, 41, rfl⟩
abbrev main_call0_v10 : Ref sig .tc := ⟨.hbm, 42, rfl⟩
abbrev main_call0_c_15 : Ref sig .tc := ⟨.hbm, 43, rfl⟩
abbrev main_call0_c_16 : Ref sig .tc := ⟨.hbm, 44, rfl⟩
abbrev main_call0_v11 : Ref sig .tc := ⟨.hbm, 45, rfl⟩
abbrev main_call0_v12 : Ref sig .tc := ⟨.hbm, 46, rfl⟩
abbrev main_call0_c_17 : Ref sig .tc := ⟨.hbm, 47, rfl⟩
abbrev main_call0_c_18 : Ref sig .tc := ⟨.hbm, 48, rfl⟩
abbrev main_call0_v13 : Ref sig .tc := ⟨.hbm, 49, rfl⟩
abbrev main_call0_v14 : Ref sig .tc := ⟨.hbm, 50, rfl⟩
abbrev main_call0_v15 : Ref sig .tc := ⟨.hbm, 51, rfl⟩
abbrev main_call0_v16 : Ref sig .tc := ⟨.hbm, 52, rfl⟩
abbrev main_call0_v17 : Ref sig .tc := ⟨.hbm, 53, rfl⟩
abbrev main_v0 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S50x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4096x50x7 : Shape := ⟨3, ![4096, 50, 7]⟩
abbrev S4096x50x1 : Shape := ⟨3, ![4096, 50, 1]⟩
abbrev S5x16 : Shape := ⟨2, ![5, 16]⟩
abbrev S3x8 : Shape := ⟨2, ![3, 8]⟩
abbrev S4x8 : Shape := ⟨2, ![4, 8]⟩
abbrev S6x16 : Shape := ⟨2, ![6, 16]⟩
abbrev S10x24 : Shape := ⟨2, ![10, 24]⟩
abbrev S19x32 : Shape := ⟨2, ![19, 32]⟩
abbrev S1x16 : Shape := ⟨2, ![1, 16]⟩
abbrev S16 : Shape := ⟨1, ![16]⟩
abbrev S128x256 : Shape := ⟨2, ![128, 256]⟩
abbrev S256 : Shape := ⟨1, ![256]⟩
abbrev S4096x50 : Shape := ⟨2, ![4096, 50]⟩
abbrev S_ : Shape := ⟨0, ![]⟩
abbrev S1 : Shape := ⟨1, ![1]⟩
abbrev S1x1x1 : Shape := ⟨3, ![1, 1, 1]⟩
abbrev S4096x50x16 : Shape := ⟨3, ![4096, 50, 16]⟩
abbrev S4096x50x8 : Shape := ⟨3, ![4096, 50, 8]⟩
abbrev S4096x50x24 : Shape := ⟨3, ![4096, 50, 24]⟩
abbrev S4096x50x32 : Shape := ⟨3, ![4096, 50, 32]⟩
abbrev S1x1x16 : Shape := ⟨3, ![1, 1, 16]⟩
abbrev S4096x50x128 : Shape := ⟨3, ![4096, 50, 128]⟩
abbrev S4096x50x256 : Shape := ⟨3, ![4096, 50, 256]⟩
abbrev S1x1x256 : Shape := ⟨3, ![1, 1, 256]⟩

abbrev nBuf : Space → Nat
  | .hbm => 252
  | .vmem => 0
  | .smem => 0
  | _ => 0

abbrev hbmTy0_0 (i : Nat) : BufTy := match i % 128 with
  | 0 => ⟨S4096x50x7, .i32⟩
  | 1 => ⟨S4096x50x1, .f32⟩
  | 2 => ⟨S5x16, .f32⟩
  | 3 => ⟨S3x8, .f32⟩
  | 4 => ⟨S4x8, .f32⟩
  | 5 => ⟨S6x16, .f32⟩
  | 6 => ⟨S10x24, .f32⟩
  | 7 => ⟨S19x32, .f32⟩
  | 8 => ⟨S4x8, .f32⟩
  | 9 => ⟨S1x16, .f32⟩
  | 10 => ⟨S16, .f32⟩
  | 11 => ⟨S128x256, .f32⟩
  | 12 => ⟨S256, .f32⟩
  | 13 => ⟨S256, .f32⟩
  | 14 => ⟨S256, .f32⟩
  | 15 => ⟨S4096x50x1, .i32⟩
  | 16 => ⟨S4096x50, .i32⟩
  | 17 => ⟨S_, .i32⟩
  | 18 => ⟨S4096x50, .i32⟩
  | 19 => ⟨S4096x50, .i1⟩
  | 20 => ⟨S_, .i32⟩
  | 21 => ⟨S4096x50, .i32⟩
  | 22 => ⟨S4096x50, .i32⟩
  | 23 => ⟨S4096x50, .i32⟩
  | 24 => ⟨S4096x50x1, .i32⟩
  | 25 => ⟨S1, .i32⟩
  | 26 => ⟨S_, .i32⟩
  | 27 => ⟨S4096x50x1, .i32⟩
  | 28 => ⟨S4096x50x1, .i1⟩
  | 29 => ⟨S1x1x1, .i32⟩
  | 30 => ⟨S4096x50x1, .i32⟩
  | 31 => ⟨S4096x50x1, .i1⟩
  | 32 => ⟨S4096x50x1, .i1⟩
  | 33 => ⟨S_, .i1⟩
  | 34 => ⟨S4096x50, .i1⟩
  | 35 => ⟨S4096x50x16, .f32⟩
  | 36 => ⟨S4096x50x16, .i1⟩
  | 37 => ⟨S_, .f32⟩
  | 38 => ⟨S4096x50x16, .f32⟩
  | 39 => ⟨S4096x50x16, .f32⟩
  | 40 => ⟨S4096x50x1, .i32⟩
  | 41 => ⟨S4096x50, .i32⟩
  | 42 => ⟨S_, .i32⟩
  | 43 => ⟨S4096x50, .i32⟩
  | 44 => ⟨S4096x50, .i1⟩
  | 45 => ⟨S_, .i32⟩
  | 46 => ⟨S4096x50, .i32⟩
  | 47 => ⟨S4096x50, .i32⟩
  | 48 => ⟨S4096x50, .i32⟩
  | 49 => ⟨S4096x50x1, .i32⟩
  | 50 => ⟨S1, .i32⟩
  | 51 => ⟨S_, .i32⟩
  | 52 => ⟨S4096x50x1, .i32⟩
  | 53 => ⟨S4096x50x1, .i1⟩
  | 54 => ⟨S1x1x1, .i32⟩
  | 55 => ⟨S4096x50x1, .i32⟩
  | 56 => ⟨S4096x50x1, .i1⟩
  | 57 => ⟨S4096x50x1, .i1⟩
  | 58 => ⟨S_, .i1⟩
  | 59 => ⟨S4096x50, .i1⟩
  | 60 => ⟨S4096x50x8, .f32⟩
  | 61 => ⟨S4096x50x8, .i1⟩
  | 62 => ⟨S_, .f32⟩
  | 63 => ⟨S4096x50x8, .f32⟩
  | 64 => ⟨S4096x50x8, .f32⟩
  | 65 => ⟨S4096x50x1, .i32⟩
  | 66 => ⟨S4096x50, .i32⟩
  | 67 => ⟨S_, .i32⟩
  | 68 => ⟨S4096x50, .i32⟩
  | 69 => ⟨S4096x50, .i1⟩
  | 70 => ⟨S_, .i32⟩
  | 71 => ⟨S4096x50, .i32⟩
  | 72 => ⟨S4096x50, .i32⟩
  | 73 => ⟨S4096x50, .i32⟩
  | 74 => ⟨S4096x50x1, .i32⟩
  | 75 => ⟨S1, .i32⟩
  | 76 => ⟨S_, .i32⟩
  | 77 => ⟨S4096x50x1, .i32⟩
  | 78 => ⟨S4096x50x1, .i1⟩
  | 79 => ⟨S1x1x1, .i32⟩
  | 80 => ⟨S4096x50x1, .i32⟩
  | 81 => ⟨S4096x50x1, .i1⟩
  | 82 => ⟨S4096x50x1, .i1⟩
  | 83 => ⟨S_, .i1⟩
  | 84 => ⟨S4096x50, .i1⟩
  | 85 => ⟨S4096x50x8, .f32⟩
  | 86 => ⟨S4096x50x8, .i1⟩
  | 87 => ⟨S_, .f32⟩
  | 88 => ⟨S4096x50x8, .f32⟩
  | 89 => ⟨S4096x50x8, .f32⟩
  | 90 => ⟨S4096x50x1, .i32⟩
  | 91 => ⟨S4096x50, .i32⟩
  | 92 => ⟨S_, .i32⟩
  | 93 => ⟨S4096x50, .i32⟩
  | 94 => ⟨S4096x50, .i1⟩
  | 95 => ⟨S_, .i32⟩
  | 96 => ⟨S4096x50, .i32⟩
  | 97 => ⟨S4096x50, .i32⟩
  | 98 => ⟨S4096x50, .i32⟩
  | 99 => ⟨S4096x50x1, .i32⟩
  | 100 => ⟨S1, .i32⟩
  | 101 => ⟨S_, .i32⟩
  | 102 => ⟨S4096x50x1, .i32⟩
  | 103 => ⟨S4096x50x1, .i1⟩
  | 104 => ⟨S1x1x1, .i32⟩
  | 105 => ⟨S4096x50x1, .i32⟩
  | 106 => ⟨S4096x50x1, .i1⟩
  | 107 => ⟨S4096x50x1, .i1⟩
  | 108 => ⟨S_, .i1⟩
  | 109 => ⟨S4096x50, .i1⟩
  | 110 => ⟨S4096x50x16, .f32⟩
  | 111 => ⟨S4096x50x16, .i1⟩
  | 112 => ⟨S_, .f32⟩
  | 113 => ⟨S4096x50x16, .f32⟩
  | 114 => ⟨S4096x50x16, .f32⟩
  | 115 => ⟨S4096x50x1, .i32⟩
  | 116 => ⟨S4096x50, .i32⟩
  | 117 => ⟨S_, .i32⟩
  | 118 => ⟨S4096x50, .i32⟩
  | 119 => ⟨S4096x50, .i1⟩
  | 120 => ⟨S_, .i32⟩
  | 121 => ⟨S4096x50, .i32⟩
  | 122 => ⟨S4096x50, .i32⟩
  | 123 => ⟨S4096x50, .i32⟩
  | 124 => ⟨S4096x50x1, .i32⟩
  | 125 => ⟨S1, .i32⟩
  | 126 => ⟨S_, .i32⟩
  | 127 => ⟨S4096x50x1, .i32⟩
  | _ => ⟨S4096x50x7, .i32⟩

abbrev hbmTy0_1 (i : Nat) : BufTy := match i % 128 with
  | 0 => ⟨S4096x50x1, .i1⟩
  | 1 => ⟨S1x1x1, .i32⟩
  | 2 => ⟨S4096x50x1, .i32⟩
  | 3 => ⟨S4096x50x1, .i1⟩
  | 4 => ⟨S4096x50x1, .i1⟩
  | 5 => ⟨S_, .i1⟩
  | 6 => ⟨S4096x50, .i1⟩
  | 7 => ⟨S4096x50x24, .f32⟩
  | 8 => ⟨S4096x50x24, .i1⟩
  | 9 => ⟨S_, .f32⟩
  | 10 => ⟨S4096x50x24, .f32⟩
  | 11 => ⟨S4096x50x24, .f32⟩
  | 12 => ⟨S4096x50x1, .i32⟩
  | 13 => ⟨S4096x50, .i32⟩
  | 14 => ⟨S_, .i32⟩
  | 15 => ⟨S4096x50, .i32⟩
  | 16 => ⟨S4096x50, .i1⟩
  | 17 => ⟨S_, .i32⟩
  | 18 => ⟨S4096x50, .i32⟩
  | 19 => ⟨S4096x50, .i32⟩
  | 20 => ⟨S4096x50, .i32⟩
  | 21 => ⟨S4096x50x1, .i32⟩
  | 22 => ⟨S1, .i32⟩
  | 23 => ⟨S_, .i32⟩
  | 24 => ⟨S4096x50x1, .i32⟩
  | 25 => ⟨S4096x50x1, .i1⟩
  | 26 => ⟨S1x1x1, .i32⟩
  | 27 => ⟨S4096x50x1, .i32⟩
  | 28 => ⟨S4096x50x1, .i1⟩
  | 29 => ⟨S4096x50x1, .i1⟩
  | 30 => ⟨S_, .i1⟩
  | 31 => ⟨S4096x50, .i1⟩
  | 32 => ⟨S4096x50x32, .f32⟩
  | 33 => ⟨S4096x50x32, .i1⟩
  | 34 => ⟨S_, .f32⟩
  | 35 => ⟨S4096x50x32, .f32⟩
  | 36 => ⟨S4096x50x32, .f32⟩
  | 37 => ⟨S4096x50x1, .i32⟩
  | 38 => ⟨S4096x50, .i32⟩
  | 39 => ⟨S_, .i32⟩
  | 40 => ⟨S4096x50, .i32⟩
  | 41 => ⟨S4096x50, .i1⟩
  | 42 => ⟨S_, .i32⟩
  | 43 => ⟨S4096x50, .i32⟩
  | 44 => ⟨S4096x50, .i32⟩
  | 45 => ⟨S4096x50, .i32⟩
  | 46 => ⟨S4096x50x1, .i32⟩
  | 47 => ⟨S1, .i32⟩
  | 48 => ⟨S_, .i32⟩
  | 49 => ⟨S4096x50x1, .i32⟩
  | 50 => ⟨S4096x50x1, .i1⟩
  | 51 => ⟨S1x1x1, .i32⟩
  | 52 => ⟨S4096x50x1, .i32⟩
  | 53 => ⟨S4096x50x1, .i1⟩
  | 54 => ⟨S4096x50x1, .i1⟩
  | 55 => ⟨S_, .i1⟩
  | 56 => ⟨S4096x50, .i1⟩
  | 57 => ⟨S4096x50x8, .f32⟩
  | 58 => ⟨S4096x50x8, .i1⟩
  | 59 => ⟨S_, .f32⟩
  | 60 => ⟨S4096x50x8, .f32⟩
  | 61 => ⟨S4096x50x8, .f32⟩
  | 62 => ⟨S4096x50x16, .f32⟩
  | 63 => ⟨S1x1x16, .f32⟩
  | 64 => ⟨S4096x50x16, .f32⟩
  | 65 => ⟨S4096x50x16, .f32⟩
  | 66 => ⟨S4096x50x128, .f32⟩
  | 67 => ⟨S4096x50x256, .f32⟩
  | 68 => ⟨S1x1x256, .f32⟩
  | 69 => ⟨S4096x50x256, .f32⟩
  | 70 => ⟨S4096x50x256, .f32⟩
  | 71 => ⟨S_, .f32⟩
  | 72 => ⟨S4096x50x256, .f32⟩
  | 73 => ⟨S4096x50x256, .f32⟩
  | 74 => ⟨S4096x50x256, .f32⟩
  | 75 => ⟨S_, .f32⟩
  | 76 => ⟨S4096x50x256, .f32⟩
  | 77 => ⟨S4096x50x256, .f32⟩
  | 78 => ⟨S4096x50x256, .f32⟩
  | 79 => ⟨S4096x50x256, .f32⟩
  | 80 => ⟨S_, .f32⟩
  | 81 => ⟨S4096x50, .f32⟩
  | 82 => ⟨S4096x50x1, .f32⟩
  | 83 => ⟨S_, .f32⟩
  | 84 => ⟨S4096x50x1, .f32⟩
  | 85 => ⟨S4096x50x1, .f32⟩
  | 86 => ⟨S_, .i32⟩
  | 87 => ⟨S_, .f32⟩
  | 88 => ⟨S4096x50, .f32⟩
  | 89 => ⟨S4096x50x1, .f32⟩
  | 90 => ⟨S_, .f32⟩
  | 91 => ⟨S4096x50x1, .f32⟩
  | 92 => ⟨S4096x50x1, .f32⟩
  | 93 => ⟨S4096x50x256, .f32⟩
  | 94 => ⟨S4096x50x256, .f32⟩
  | 95 => ⟨S4096x50x256, .f32⟩
  | 96 => ⟨S_, .f32⟩
  | 97 => ⟨S_, .f32⟩
  | 98 => ⟨S_, .f32⟩
  | 99 => ⟨S_, .f32⟩
  | 100 => ⟨S4096x50, .f32⟩
  | 101 => ⟨S4096x50x1, .f32⟩
  | 102 => ⟨S4096x50x1, .f32⟩
  | 103 => ⟨S4096x50x1, .f32⟩
  | 104 => ⟨S_, .f32⟩
  | 105 => ⟨S_, .i1⟩
  | 106 => ⟨S_, .f32⟩
  | 107 => ⟨S_, .f32⟩
  | 108 => ⟨S4096x50x1, .f32⟩
  | 109 => ⟨S4096x50x1, .f32⟩
  | 110 => ⟨S4096x50x256, .f32⟩
  | 111 => ⟨S4096x50x256, .f32⟩
  | 112 => ⟨S_, .f32⟩
  | 113 => ⟨S4096x50x1, .f32⟩
  | 114 => ⟨S4096x50x1, .f32⟩
  | 115 => ⟨S4096x50x1, .f32⟩
  | 116 => ⟨S4096x50x256, .f32⟩
  | 117 => ⟨S4096x50x256, .f32⟩
  | 118 => ⟨S1x1x256, .f32⟩
  | 119 => ⟨S4096x50x256, .f32⟩
  | 120 => ⟨S4096x50x256, .f32⟩
  | 121 => ⟨S1x1x256, .f32⟩
  | 122 => ⟨S4096x50x256, .f32⟩
  | 123 => ⟨S4096x50x256, .f32⟩
  | _ => ⟨S4096x50x7, .i32⟩

abbrev hbmTy (i : Nat) : BufTy := match i / 128 with
  | 0 => hbmTy0_0 i
  | 1 => hbmTy0_1 i
  | _ => ⟨S4096x50x7, .i32⟩

abbrev bufTy : (tb : Table) → Fin (tcTables nBuf tb) → BufTy
  | .hbm, ⟨i, _⟩ => hbmTy i
  | _, _ => ⟨S4096x50x7, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v5 : Ref sig .tc := ⟨.hbm, 64, rfl⟩
abbrev main_v6 : Ref sig .tc := ⟨.hbm, 65, rfl⟩
abbrev main_v7 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v8 : Ref sig .tc := ⟨.hbm, 89, rfl⟩
abbrev main_v9 : Ref sig .tc := ⟨.hbm, 90, rfl⟩
abbrev main_v10 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_call3_cst : Ref sig .tc := ⟨.hbm, 112, rfl⟩
abbrev main_call3_v15 : Ref sig .tc := ⟨.hbm, 113, rfl⟩
abbrev main_v11 : Ref sig .tc := ⟨.hbm, 114, rfl⟩
abbrev main_v12 : Ref sig .tc := ⟨.hbm, 115, rfl⟩
abbrev main_v13 : Ref sig .tc := ⟨.hbm, 116, rfl⟩
abbrev main_call4_c : Ref sig .tc := ⟨.hbm, 117, rfl⟩
abbrev main_call4_v0 : Ref sig .tc := ⟨.hbm, 118, rfl⟩
abbrev main_call4_v1 : Ref sig .tc := ⟨.hbm, 119, rfl⟩
abbrev main_call4_c_0 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_v5 : Ref sig .tc := ⟨.hbm, 124, rfl⟩
abbrev main_call4_c_1 : Ref sig .tc := ⟨.hbm, 125, rfl⟩
abbrev main_call4_c_2 : Ref sig .tc := ⟨.hbm, 126, rfl⟩
abbrev main_call4_v6 : Ref sig .tc := ⟨.hbm, 127, rfl⟩
abbrev main_call4_v7 : Ref sig .tc := ⟨.hbm, 128, rfl⟩
abbrev main_call4_v8 : Ref sig .tc := ⟨.hbm, 129, rfl⟩
abbrev main_call4_v9 : Ref sig .tc := ⟨.hbm, 130, rfl⟩
abbrev main_call4_v10 : Ref sig .tc := ⟨.hbm, 131, rfl⟩
abbrev main_call4_v11 : Ref sig .tc := ⟨.hbm, 132, rfl⟩
abbrev main_call4_c_3 : Ref sig .tc := ⟨.hbm, 133, rfl⟩
abbrev main_call4_v12 : Ref sig .tc := ⟨.hbm, 134, rfl⟩
abbrev main_call4_v13 : Ref sig .tc := ⟨.hbm, 135, rfl⟩
abbrev main_call4_v14 : Ref sig .tc := ⟨.hbm, 136, rfl⟩
abbrev main_call4_cst : Ref sig .tc := ⟨.hbm, 137, rfl⟩
abbrev main_call4_v15 : Ref sig .tc := ⟨.hbm, 138, rfl⟩
abbrev main_v14 : Ref sig .tc := ⟨.hbm, 139, rfl⟩
abbrev main_v15 : Ref sig .tc := ⟨.hbm, 140, rfl⟩
abbrev main_v16 : Ref sig .tc := ⟨.hbm, 141, rfl⟩
abbrev main_call5_c : Ref sig .tc := ⟨.hbm, 142, rfl⟩
abbrev main_call5_v0 : Ref sig .tc := ⟨.hbm, 143, rfl⟩
abbrev main_call5_v1 : Ref sig .tc := ⟨.hbm, 144, rfl⟩
abbrev main_call5_c_0 : Ref sig .tc := ⟨.hbm, 145, rfl⟩
abbrev main_call5_v2 : Ref sig .tc := ⟨.hbm, 146, rfl⟩
abbrev main_call5_v3 : Ref sig .tc := ⟨.hbm, 147, rfl⟩
abbrev main_call5_v4 : Ref sig .tc := ⟨.hbm, 148, rfl⟩
abbrev main_call5_v5 : Ref sig .tc := ⟨.hbm, 149, rfl⟩
abbrev main_call5_c_1 : Ref sig .tc := ⟨.hbm, 150, rfl⟩
abbrev main_call5_c_2 : Ref sig .tc := ⟨.hbm, 151, rfl⟩
abbrev main_call5_v6 : Ref sig .tc := ⟨.hbm, 152, rfl⟩
abbrev main_call5_v7 : Ref sig .tc := ⟨.hbm, 153, rfl⟩
abbrev main_call5_v8 : Ref sig .tc := ⟨.hbm, 154, rfl⟩
abbrev main_call5_v9 : Ref sig .tc := ⟨.hbm, 155, rfl⟩
abbrev main_call5_v10 : Ref sig .tc := ⟨.hbm, 156, rfl⟩
abbrev main_call5_v11 : Ref sig .tc := ⟨.hbm, 157, rfl⟩
abbrev main_call5_c_3 : Ref sig .tc := ⟨.hbm, 158, rfl⟩
abbrev main_call5_v12 : Ref sig .tc := ⟨.hbm, 159, rfl⟩
abbrev main_call5_v13 : Ref sig .tc := ⟨.hbm, 160, rfl⟩
abbrev main_call5_v14 : Ref sig .tc := ⟨.hbm, 161, rfl⟩
abbrev main_call5_cst : Ref sig .tc := ⟨.hbm, 162, rfl⟩
abbrev main_call5_v15 : Ref sig .tc := ⟨.hbm, 163, rfl⟩
abbrev main_v17 : Ref sig .tc := ⟨.hbm, 164, rfl⟩
abbrev main_v18 : Ref sig .tc := ⟨.hbm, 165, rfl⟩
abbrev main_v19 : Ref sig .tc := ⟨.hbm, 166, rfl⟩
abbrev main_call6_c : Ref sig .tc := ⟨.hbm, 167, rfl⟩
abbrev main_call6_v0 : Ref sig .tc := ⟨.hbm, 168, rfl⟩
abbrev main_call6_v1 : Ref sig .tc := ⟨.hbm, 169, rfl⟩
abbrev main_call6_c_0 : Ref sig .tc := ⟨.hbm, 170, rfl⟩
abbrev main_call6_v2 : Ref sig .tc := ⟨.hbm, 171, rfl⟩
abbrev main_call6_v3 : Ref sig .tc := ⟨.hbm, 172, rfl⟩
abbrev main_call6_v4 : Ref sig .tc := ⟨.hbm, 173, rfl⟩
abbrev main_call6_v5 : Ref sig .tc := ⟨.hbm, 174, rfl⟩
abbrev main_call6_c_1 : Ref sig .tc := ⟨.hbm, 175, rfl⟩
abbrev main_call6_c_2 : Ref sig .tc := ⟨.hbm, 176, rfl⟩
abbrev main_call6_v6 : Ref sig .tc := ⟨.hbm, 177, rfl⟩
abbrev main_call6_v7 : Ref sig .tc := ⟨.hbm, 178, rfl⟩
abbrev main_call6_v8 : Ref sig .tc := ⟨.hbm, 179, rfl⟩
abbrev main_call6_v9 : Ref sig .tc := ⟨.hbm, 180, rfl⟩
abbrev main_call6_v10 : Ref sig .tc := ⟨.hbm, 181, rfl⟩
abbrev main_call6_v11 : Ref sig .tc := ⟨.hbm, 182, rfl⟩
abbrev main_call6_c_3 : Ref sig .tc := ⟨.hbm, 183, rfl⟩
abbrev main_call6_v12 : Ref sig .tc := ⟨.hbm, 184, rfl⟩
abbrev main_call6_v13 : Ref sig .tc := ⟨.hbm, 185, rfl⟩
abbrev main_call6_v14 : Ref sig .tc := ⟨.hbm, 186, rfl⟩
abbrev main_call6_cst : Ref sig .tc := ⟨.hbm, 187, rfl⟩
abbrev main_call6_v15 : Ref sig .tc := ⟨.hbm, 188, rfl⟩
abbrev main_v20 : Ref sig .tc := ⟨.hbm, 189, rfl⟩
abbrev main_v21 : Ref sig .tc := ⟨.hbm, 190, rfl⟩
abbrev main_v22 : Ref sig .tc := ⟨.hbm, 191, rfl⟩
abbrev main_v23 : Ref sig .tc := ⟨.hbm, 192, rfl⟩
abbrev main_v24 : Ref sig .tc := ⟨.hbm, 193, rfl⟩
abbrev main_v25 : Ref sig .tc := ⟨.hbm, 194, rfl⟩
abbrev main_v26 : Ref sig .tc := ⟨.hbm, 195, rfl⟩
abbrev main_v27 : Ref sig .tc := ⟨.hbm, 196, rfl⟩
abbrev main_v28 : Ref sig .tc := ⟨.hbm, 197, rfl⟩
abbrev main_v29 : Ref sig .tc := ⟨.hbm, 198, rfl⟩
abbrev main_cst : Ref sig .tc := ⟨.hbm, 199, rfl⟩
abbrev main_v30 : Ref sig .tc := ⟨.hbm, 200, rfl⟩
abbrev main_v31 : Ref sig .tc := ⟨.hbm, 201, rfl⟩
abbrev main_v32 : Ref sig .tc := ⟨.hbm, 202, rfl⟩
abbrev main_cst_0 : Ref sig .tc := ⟨.hbm, 203, rfl⟩
abbrev main_v33 : Ref sig .tc := ⟨.hbm, 204, rfl⟩
abbrev main_v34 : Ref sig .tc := ⟨.hbm, 205, rfl⟩
abbrev main_v35 : Ref sig .tc := ⟨.hbm, 206, rfl⟩
abbrev main_v36 : Ref sig .tc := ⟨.hbm, 207, rfl⟩
abbrev main_cst_1 : Ref sig .tc := ⟨.hbm, 208, rfl⟩
abbrev main_v37 : Ref sig .tc := ⟨.hbm, 209, rfl⟩
abbrev main_v38 : Ref sig .tc := ⟨.hbm, 210, rfl⟩
abbrev main_cst_2 : Ref sig .tc := ⟨.hbm, 211, rfl⟩
abbrev main_v39 : Ref sig .tc := ⟨.hbm, 212, rfl⟩
abbrev main_v40 : Ref sig .tc := ⟨.hbm, 213, rfl⟩
abbrev main_c : Ref sig .tc := ⟨.hbm, 214, rfl⟩
abbrev main_call7_cst : Ref sig .tc := ⟨.hbm, 215, rfl⟩
abbrev main_call7_v0 : Ref sig .tc := ⟨.hbm, 216, rfl⟩
abbrev main_call7_v1 : Ref sig .tc := ⟨.hbm, 217, rfl⟩
abbrev main_call7_cst_0 : Ref sig .tc := ⟨.hbm, 218, rfl⟩
abbrev main_call7_v2 : Ref sig .tc := ⟨.hbm, 219, rfl⟩
abbrev main_call7_v3 : Ref sig .tc := ⟨.hbm, 220, rfl⟩
abbrev main_call7_v4 : Ref sig .tc := ⟨.hbm, 221, rfl⟩
abbrev main_call7_v5 : Ref sig .tc := ⟨.hbm, 222, rfl⟩
abbrev main_call7_v6 : Ref sig .tc := ⟨.hbm, 223, rfl⟩
abbrev main_call7_v7 : Ref sig .tc := ⟨.hbm, 224, rfl⟩
abbrev main_call7_cst_1 : Ref sig .tc := ⟨.hbm, 225, rfl⟩
abbrev main_call7_v8 : Ref sig .tc := ⟨.hbm, 226, rfl⟩
abbrev main_call7_cst_2 : Ref sig .tc := ⟨.hbm, 227, rfl⟩
abbrev main_call7_v9 : Ref sig .tc := ⟨.hbm, 228, rfl⟩
abbrev main_call7_v10 : Ref sig .tc := ⟨.hbm, 229, rfl⟩
abbrev main_call7_v11 : Ref sig .tc := ⟨.hbm, 230, rfl⟩
abbrev main_call7_v12 : Ref sig .tc := ⟨.hbm, 231, rfl⟩
abbrev main_call7_cst_3 : Ref sig .tc := ⟨.hbm, 232, rfl⟩
abbrev main_call7_v13 : Ref sig .tc := ⟨.hbm, 233, rfl⟩
abbrev main_call7_cst_4 : Ref sig .tc := ⟨.hbm, 234, rfl⟩
abbrev main_call7_call0_v0 : Ref sig .tc := ⟨.hbm, 235, rfl⟩
abbrev main_call7_call0_v1 : Ref sig .tc := ⟨.hbm, 236, rfl⟩
abbrev main_v41 : Ref sig .tc := ⟨.hbm, 237, rfl⟩
abbrev main_v42 : Ref sig .tc := ⟨.hbm, 238, rfl⟩
abbrev main_v43 : Ref sig .tc := ⟨.hbm, 239, rfl⟩
abbrev main_cst_3 : Ref sig .tc := ⟨.hbm, 240, rfl⟩
abbrev main_v44 : Ref sig .tc := ⟨.hbm, 241, rfl⟩
abbrev main_v45 : Ref sig .tc := ⟨.hbm, 242, rfl⟩
abbrev main_v46 : Ref sig .tc := ⟨.hbm, 243, rfl⟩
abbrev main_v47 : Ref sig .tc := ⟨.hbm, 244, rfl⟩
abbrev main_v48 : Ref sig .tc := ⟨.hbm, 245, rfl⟩
abbrev main_v49 : Ref sig .tc := ⟨.hbm, 246, rfl⟩
abbrev main_v50 : Ref sig .tc := ⟨.hbm, 247, rfl⟩
abbrev main_v51 : Ref sig .tc := ⟨.hbm, 248, rfl⟩
abbrev main_v52 : Ref sig .tc := ⟨.hbm, 249, rfl⟩
abbrev main_v53 : Ref sig .tc := ⟨.hbm, 250, rfl⟩
abbrev main_v54 : Ref sig .tc := ⟨.hbm, 251, rfl⟩

abbrev nD : Nat := 1
abbrev τ : Topo := Topo.v7x

variable {F : FTy → Type} [FloatOps F]
-- ==== Proof.Consts.lean ====
/- The float constants the two programs spell, as the extended reals their words denote. One module states them all, so
   that no other module opens a word. -/
module

public import Idealize.ShloMosaic.PureOps.Ideal

@[expose] public section

noncomputable section

namespace Cert.Consts

open Idealize.ShloMosaic

/-- The GELU's `0.5` is the real one half. -/
theorem half : Ideal.ofBits .f32 0x3F000000#32 = ((1 / 2 : ℝ) : EReal) := by
  simp [Ideal.ofBits, Ideal.ieee, -EReal.coe_mul]; norm_num

/-- The number of lanes a mean divides by is the real `256`. -/
theorem lanes : Ideal.ofBits .f32 0x43800000#32 = ((256 : ℝ) : EReal) := by
  simp [Ideal.ofBits, Ideal.ieee, -EReal.coe_mul]; norm_num

/-- The variance's guard is a positive real. -/
theorem eps : ∃ e : ℝ, 0 < e ∧ Ideal.ofBits .f32 0x3727C5AC#32 = ((e : ℝ) : EReal) := by
  refine ⟨_, ?_, by simp [Ideal.ofBits, Ideal.ieee, -EReal.coe_mul]; rfl⟩
  norm_num

theorem zero : Ideal.ofBits .f32 0x00000000#32 = 0 := by
  simp [Ideal.ofBits, Ideal.ieee, -EReal.coe_mul]

theorem one : Ideal.ofBits .f32 0x3F800000#32 = 1 := by
  simp [Ideal.ofBits, Ideal.ieee, -EReal.coe_mul]; norm_num

/-- The lane that carries the number itself. -/
theorem lane53 : Ideal.ofBits .f32 0x42540000#32 = ((53 : ℝ) : EReal) := by
  simp [Ideal.ofBits, Ideal.ieee, -EReal.coe_mul]; norm_num

/-! The first table row of each feature, as the base row spells them. -/

theorem row5 : Ideal.ofBits .f32 0x40A00000#32 = ((5 : ℝ) : EReal) := by
  simp [Ideal.ofBits, Ideal.ieee, -EReal.coe_mul]; norm_num

theorem row8 : Ideal.ofBits .f32 0x41000000#32 = ((8 : ℝ) : EReal) := by
  simp [Ideal.ofBits, Ideal.ieee, -EReal.coe_mul]; norm_num

theorem row12 : Ideal.ofBits .f32 0x41400000#32 = ((12 : ℝ) : EReal) := by
  simp [Ideal.ofBits, Ideal.ieee, -EReal.coe_mul]; norm_num

theorem row18 : Ideal.ofBits .f32 0x41900000#32 = ((18 : ℝ) : EReal) := by
  simp [Ideal.ofBits, Ideal.ieee, -EReal.coe_mul]; norm_num

theorem row28 : Ideal.ofBits .f32 0x41E00000#32 = ((28 : ℝ) : EReal) := by
  simp [Ideal.ofBits, Ideal.ieee, -EReal.coe_mul]; norm_num

theorem row47 : Ideal.ofBits .f32 0x423C0000#32 = ((47 : ℝ) : EReal) := by
  simp [Ideal.ofBits, Ideal.ieee, -EReal.coe_mul]; norm_num

theorem row52 : Ideal.ofBits .f32 0x42500000#32 = ((52 : ℝ) : EReal) := by
  simp [Ideal.ofBits, Ideal.ieee, -EReal.coe_mul]; norm_num

/-- What the base row holds at a lane no feature uses. -/
theorem unused : Ideal.ofBits .f32 0xC47A0000#32 = ((-1000 : ℝ) : EReal) := by
  simp [Ideal.ofBits, Ideal.ieee, -EReal.coe_mul]; norm_num

/-- The two infinities the precondition compares with. -/
theorem minusInf : Ideal.ofBits .f32 0xFF800000#32 = ⊥ := by
  simp [Ideal.ofBits, Ideal.ieee]

theorem plusInf : Ideal.ofBits .f32 0x7F800000#32 = ⊤ := by
  simp [Ideal.ofBits, Ideal.ieee]

end Cert.Consts

end
-- ==== Proof.Trip.lean ====
/- What one sequence position computes, as a function of the values it reads: the 512 rows of eight inputs at that
   position, the selector's two tables, the table already multiplied by the projection, and the normalisation's scale and
   shift. The body does this fifty times. -/
module

public import proofs.«01_k».proof.Proof.Gen.KernelIdeal.Skeleton
public import Idealize.ShloMosaic.Lib.Pipeline.ValueKit
public import Idealize.ShloMosaic.Lib.WordArith
public import proofs.«01_k».proof.Proof.Consts

@[expose] public section

set_option maxRecDepth 16384

noncomputable section

namespace Cert.Trip

open Idealize.ShloMosaic Cert.KernelIdeal Cert.KernelIdeal.Gen

variable {F : FTy → Type} [FloatOps F]

/-- Per row and lane: the row number the lane's feature asks for. -/
def sums (x : Vec F S512x8 .f32) (s : Vec F S8x64 .f32) (base : Vec F S1x64 .f32) : FVec F S512x64 .f32 :=
  addf (matmul dot_S512x8_S8x64_S512x64_1_0_0_1_n_n none (shapeCast S512x8 x shapeCasts_S512x8_S512x8) s (constant S512x64 .f32 0x00000000#32))
    (broadcastTo S512x64 base broadcasts_S1x64_S512x64)

/-- The selector: one where the number asked for is the lane's own, and on lane 53 the number itself. -/
def selector (u : FVec F S512x64 .f32) : FVec F S512x64 .f32 :=
  select (cmpf .oeq (k0_pay3 (F := F)) (broadcast S512x64 (Scalar.ofBits .f32 0x42540000#32))) u
    (sitofp .f32 (extui 32 (cmpf .oeq u (k0_pay3 (F := F))) natLt_1_32))

/-- The hidden layer of the 512 rows. -/
def hiddenRows (m : FVec F S512x64 .f32) (A : Vec F S64x256 .f32) : FVec F S512x256 .f32 :=
  matmul dot_S512x64_S64x256_S512x256_1_0_0_1_n_n none m A (constant S512x256 .f32 0x00000000#32)

/-- The exact GELU as the body spells it. -/
def gelu (h : FVec F S512x256 .f32) : FVec F S512x256 .f32 :=
  mulf h (addf (mulf (broadcast S512x256 (Scalar.ofBits .f32 0x3F000000#32)) (erf (mulf h (broadcast S512x256 (Scalar.ofBits .f32 0x3F3504F3#32)))))
    (broadcast S512x256 (Scalar.ofBits .f32 0x3F000000#32)))

/-- The mean of each row, as a column. -/
def rowMean (y : FVec F S512x256 .f32) : FVec F S512x1 .f32 :=
  divf (shapeCast S512x1 (multiReduction .add [1] S512 y 0x00000000#32 reduces_S512x256_S512 (.inl rfl) rfl) shapeCasts_S512_S512x1)
    (broadcast S512x1 (Scalar.ofBits .f32 0x43800000#32))

/-- Each row less its mean. -/
def centred (y : FVec F S512x256 .f32) : FVec F S512x256 .f32 :=
  subf y (broadcastTo S512x256 (rowMean y) broadcasts_S512x1_S512x256)

/-- Each centred row divided by its standard deviation, scaled and shifted. -/
def normed (d : FVec F S512x256 .f32) (g b : Vec F S1x256 .f32) : FVec F S512x256 .f32 :=
  addf (mulf (mulf d (broadcastTo S512x256 (rsqrt (addf (rowMean (mulf d d)) (broadcast S512x1 (Scalar.ofBits .f32 0x3727C5AC#32)))) broadcasts_S512x1_S512x256))
    (broadcastTo S512x256 (shapeCast S1x256 g shapeCasts_S1x256_S1x256) broadcasts_S1x256_S512x256))
    (broadcastTo S512x256 (shapeCast S1x256 b shapeCasts_S1x256_S1x256) broadcasts_S1x256_S512x256)

/-- One position, all of it: the block it stores. -/
def position (x : Vec F S512x8 .f32) (s : Vec F S8x64 .f32) (base : Vec F S1x64 .f32) (A : Vec F S64x256 .f32) (g b : Vec F S1x256 .f32) :
    FVec F S1x512x256 .f32 :=
  shapeCast S1x512x256 (normed (centred (gelu (hiddenRows (selector (sums x s base)) A))) g b) shapeCasts_S512x256_S1x512x256

theorem sums_apply (x : FVec Ideal S512x8 .f32) (s : FVec Ideal S8x64 .f32) (base : FVec Ideal S1x64 .f32) (r : Fin 512) (k : Fin 64) :
    sums x s base (ix2 r k) = ∑ f, x (ix2 r f) * s (ix2 f k) + base (ix2 (0 : Fin 1) k) := by
  pointwise [sums]

/-- A small whole number as a float: itself. -/
theorem sitofp_nat (n : ℕ) (hn : n < 2 ^ 31) : (FloatOps.sitofp .f32 (BitVec.ofNat 32 n) : Ideal .f32) = ((n : ℝ) : EReal) := by
  show (((BitVec.ofNat 32 n).toInt : ℝ) : EReal) = _
  rw [WordArith.toInt_ofNat_small _ hn]
  norm_num

theorem selector_apply (u : FVec Ideal S512x64 .f32) (r : Fin 512) (k : Fin 64) :
    selector u (ix2 r k) = if k = 53 then u (ix2 r k) else if u (ix2 r k) = ((k.val : ℝ) : EReal) then 1 else 0 := by
  pointwise [selector, k0_pay3]
  have hk := sitofp_nat k.val (by omega)
  rw [hk, Consts.lane53]
  have h53 : (((k.val : ℝ) : EReal) = ((53 : ℝ) : EReal)) ↔ k = 53 := by
    rw [EReal.coe_eq_coe_iff, Fin.ext_iff]
    exact_mod_cast Iff.rfl
  by_cases h : k = 53
  · rw [if_pos h, if_pos (h53.2 h)]
  · rw [if_neg h, if_neg fun h' => h (h53.1 h')]
    by_cases hu : u (ix2 r k) = ((k.val : ℝ) : EReal)
    · rw [if_pos hu, decide_eq_true hu]
      exact (sitofp_nat 1 (by norm_num)).trans (by norm_num)
    · rw [if_neg hu, decide_eq_false hu]
      exact (sitofp_nat 0 (by norm_num)).trans (by norm_num)

theorem hiddenRows_apply (m : FVec Ideal S512x64 .f32) (A : FVec Ideal S64x256 .f32) (r : Fin 512) (n : Fin 256) :
    hiddenRows m A (ix2 r n) = ∑ k, m (ix2 r k) * A (ix2 k n) := by
  pointwise [hiddenRows]

theorem gelu_apply (h : FVec Ideal S512x256 .f32) (r : Fin 512) (n : Fin 256) :
    gelu h (ix2 r n) = h (ix2 r n) * (((1 / 2 : ℝ) : EReal) * Ideal.erf (h (ix2 r n) * Ideal.ofBits .f32 0x3F3504F3#32) + ((1 / 2 : ℝ) : EReal)) := by
  pointwise [gelu]
  rw [← Consts.half]
  rfl

theorem centred_apply (y : FVec Ideal S512x256 .f32) (r : Fin 512) (n : Fin 256) :
    centred y (ix2 r n) = y (ix2 r n) - Ideal.div (∑ j, y (ix2 r j)) ((256 : ℝ) : EReal) := by
  pointwise [centred, rowMean]
  rw [← Consts.lanes]

theorem normed_apply (d : FVec Ideal S512x256 .f32) (g b : FVec Ideal S1x256 .f32) (r : Fin 512) (n : Fin 256) :
    normed d g b (ix2 r n) = d (ix2 r n) * Ideal.rsqrt (Ideal.div (∑ j, d (ix2 r j) * d (ix2 r j)) ((256 : ℝ) : EReal) + Ideal.ofBits .f32 0x3727C5AC#32)
      * g (ix2 (0 : Fin 1) n) + b (ix2 (0 : Fin 1) n) := by
  pointwise [normed, rowMean]
  rw [← Consts.lanes]

theorem position_apply (x : FVec Ideal S512x8 .f32) (s : FVec Ideal S8x64 .f32) (base : FVec Ideal S1x64 .f32) (A : FVec Ideal S64x256 .f32)
    (g b : FVec Ideal S1x256 .f32) (z : Fin 1) (r : Fin 512) (n : Fin 256) :
    position (F := Ideal) x s base A g b (ix3 z r n) = normed (F := Ideal) (centred (gelu (hiddenRows (selector (sums x s base)) A))) g b (ix2 r n) := by
  pointwise [position]

end Cert.Trip

end
-- ==== Proof.Blocks.lean ====
/- What one grid point leaves in the output's staged block: fifty stored slabs, slab `l` the position `l` of the point's
   512 rows. -/
module

public import proofs.«01_k».proof.Proof.Gen.KernelIdeal.Frame
public import Idealize.ShloMosaic.Lib.Pipeline.ReadBack
public import Idealize.ShloMosaic.Lib.Pipeline.ValueKit.Stack
public import proofs.«01_k».proof.Proof.Trip

@[expose] public section

set_option maxRecDepth 16384

noncomputable section

namespace Cert.Blocks

open Idealize.ShloMosaic Idealize.SL.Sem Cert.KernelIdeal Cert.KernelIdeal.Gen

variable {F : FTy → Type} [FloatOps F]

/-- The eight inputs of position `l`: columns `8 l … 8 l + 7` of the block. -/
def inputsAt (x : FVec F S512x400 .f32) (l : Fin 50) : FVec F S512x8 .f32 :=
  fun j => x (ix2 (j 0) (⟨8 * l.val + (j 1).val, by have := l.isLt; have h : (j 1).val < 8 := (j 1).isLt; omega⟩ : Fin 400))

/-- Position `l` of the block, before the new unit axis. -/
def slab (x : FVec F S512x400 .f32) (s : FVec F S8x64 .f32) (base : FVec F S1x64 .f32) (A : FVec F S64x256 .f32)
    (g b : FVec F S1x256 .f32) (l : Fin 50) : FVec F S512x256 .f32 :=
  Trip.normed (F := F) (Trip.centred (Trip.gelu (Trip.hiddenRows (Trip.selector (Trip.sums (inputsAt x l) s base)) A))) g b

/-- The block: the fifty positions stacked. -/
def block (x : FVec F S512x400 .f32) (s : FVec F S8x64 .f32) (base : FVec F S1x64 .f32) (A : FVec F S64x256 .f32)
    (g b : FVec F S1x256 .f32) : FVec F S50x512x256 .f32 :=
  stackAlong0 (slab x s base A g b)

/-- A position, stored at the slab that its inputs' columns say, is the block there. -/
theorem stored (x : FVec F S512x400 .f32) (s : FVec F S8x64 .f32) (base : FVec F S1x64 .f32) (A : FVec F S64x256 .f32)
    (g b : FVec F S1x256 .f32) (l : ℕ) (hl : l < 50) (inb : ∀ a, (![l, 0, 0] : Fin 3 → ℕ) a + S1x512x256.size a ≤ S50x512x256.size a)
    (inc : ∀ a, (![0, 8 * l] : Fin 2 → ℕ) a + S512x8.size a ≤ S512x400.size a) (z : S1x512x256.Idx) :
    block x s base A g b ((Rect.unit (s := S50x512x256) ![l, 0, 0] S1x512x256.size inb).emb z)
      = Trip.position (F := F) (View.ld (Val := Elt F) (e' := .f32) x (Rect.unit (s := S512x400) ![0, 8 * l] S512x8.size inc)) s base A g b z := by
  have hx : View.ld (Val := Elt F) (e' := .f32) x (Rect.unit (s := S512x400) ![0, 8 * l] S512x8.size inc) = inputsAt x ⟨l, hl⟩ := by
    funext j
    refine congrArg x (funext fun a => Fin.ext ?_)
    match a with
    | ⟨0, _⟩ => show 0 + 1 * (j 0).val = (j 0).val; omega
    | ⟨1, _⟩ => show 8 * l + 1 * (j 1).val = 8 * l + (j 1).val; omega
  rw [hx]
  exact (stack_piece_emb (slab x s base A g b) ⟨l, hl⟩ shapeCasts_S512x256_S1x512x256 ![l, 0, 0] inb rfl
    (fun a => by match a with | ⟨0, _⟩ => rfl | ⟨1, _⟩ => rfl) z).symm

set_option maxHeartbeats 8000000 in
/-- The output's block at a point other than the first, over the contents `xs` of the scratch. -/
theorem out_B (c : Dev nD) (i : grid0.Coords)
    (arg1 : Memref sig .tc .vmem S512x400 .f32) (harg1 : arg1.IsWhole) (arg2 : Memref sig .tc .vmem S64x128 .f32) (harg2 : arg2.IsWhole)
    (arg3 : Memref sig .tc .vmem S128x256 .f32) (harg3 : arg3.IsWhole) (arg4 : Memref sig .tc .vmem S1x256 .f32) (harg4 : arg4.IsWhole)
    (arg5 : Memref sig .tc .vmem S8x64 .f32) (harg5 : arg5.IsWhole) (arg6 : Memref sig .tc .vmem S1x64 .f32) (harg6 : arg6.IsWhole)
    (arg7 : Memref sig .tc .vmem S1x256 .f32) (harg7 : arg7.IsWhole) (arg8 : Memref sig .tc .vmem S1x256 .f32) (harg8 : arg8.IsWhole)
    (arg9 : Memref sig .tc .vmem S50x512x256 .f32) (harg9 : arg9.IsWhole) (arg10 : Memref sig .tc .vmem S64x256 .f32) (harg10 : arg10.IsWhole)
    (hc0 : ¬cond0_0 i)
    (x0 : Vec F S512x400 .f32) (x1 : Vec F S64x128 .f32) (x2 : Vec F S128x256 .f32) (x3 : Vec F S1x256 .f32)
    (x4 : Vec F S8x64 .f32) (x5 : Vec F S1x64 .f32) (x6 : Vec F S1x256 .f32) (x7 : Vec F S1x256 .f32) (xs : Vec F S64x256 .f32) :
    out0_B_8 (F := F) c i arg1 harg1 arg2 harg2 arg3 harg3 arg4 harg4 arg5 harg5 arg6 harg6 arg7 harg7 arg8 harg8 arg9 harg9 arg10 harg10 hc0
      x0 x1 x2 x3 x4 x5 x6 x7 xs = block x0 x4 x5 xs x6 x7 := by
  funext y
  have key := stored x0 x4 x5 xs x6 x7
  have cover := cover0_B_8 (F := F) c i arg1 harg1 arg2 harg2 arg3 harg3 arg4 harg4 arg5 harg5 arg6 harg6 arg7 harg7 arg8 harg8 arg9 harg9 arg10 harg10 hc0
      x0 x1 x2 x3 x4 x5 x6 x7 xs y
  unfold out0_B_8
  rw [View.read_writes_junk_eq_canon]
  refine View.canon_apply_of_pieces _ _ (View.PiecesOf.mem ?_) y cover
  clear cover
  frame_out
  repeat'
    first
    | exact trivial
    | refine And.intro (fun z => ?_) ?_
    | refine Eq.trans ?_ (key _ (by decide) (by decide) (by decide) _).symm
      refine congrFun ?_ _
      rfl

end Cert.Blocks

end
-- ==== Proof.BlocksFirst.lean ====
/- The first grid point: it fills the scratch, then stores the fifty slabs over what it filled. -/
module

public import proofs.«01_k».proof.Proof.Gen.KernelIdeal.Frame
public import Idealize.ShloMosaic.Lib.Pipeline.ReadBack
public import Idealize.ShloMosaic.Lib.Pipeline.ValueKit.Stack
public import proofs.«01_k».proof.Proof.Blocks

@[expose] public section

set_option maxRecDepth 16384

noncomputable section

namespace Cert.Blocks

open Idealize.ShloMosaic Idealize.SL.Sem Cert.KernelIdeal Cert.KernelIdeal.Gen

variable {F : FTy → Type} [FloatOps F]

set_option maxHeartbeats 8000000 in
/-- The output's block at the first point, over the scratch it has just stored. -/
theorem out_A (c : Dev nD) (i : grid0.Coords)
    (arg1 : Memref sig .tc .vmem S512x400 .f32) (harg1 : arg1.IsWhole) (arg2 : Memref sig .tc .vmem S64x128 .f32) (harg2 : arg2.IsWhole)
    (arg3 : Memref sig .tc .vmem S128x256 .f32) (harg3 : arg3.IsWhole) (arg4 : Memref sig .tc .vmem S1x256 .f32) (harg4 : arg4.IsWhole)
    (arg5 : Memref sig .tc .vmem S8x64 .f32) (harg5 : arg5.IsWhole) (arg6 : Memref sig .tc .vmem S1x64 .f32) (harg6 : arg6.IsWhole)
    (arg7 : Memref sig .tc .vmem S1x256 .f32) (harg7 : arg7.IsWhole) (arg8 : Memref sig .tc .vmem S1x256 .f32) (harg8 : arg8.IsWhole)
    (arg9 : Memref sig .tc .vmem S50x512x256 .f32) (harg9 : arg9.IsWhole) (arg10 : Memref sig .tc .vmem S64x256 .f32) (harg10 : arg10.IsWhole)
    (hc0 : cond0_0 i)
    (x0 : Vec F S512x400 .f32) (x1 : Vec F S64x128 .f32) (x2 : Vec F S128x256 .f32) (x3 : Vec F S1x256 .f32)
    (x4 : Vec F S8x64 .f32) (x5 : Vec F S1x64 .f32) (x6 : Vec F S1x256 .f32) (x7 : Vec F S1x256 .f32) :
    out0_A_8 (F := F) c i arg1 harg1 arg2 harg2 arg3 harg3 arg4 harg4 arg5 harg5 arg6 harg6 arg7 harg7 arg8 harg8 arg9 harg9 arg10 harg10 hc0
      x0 x1 x2 x3 x4 x5 x6 x7 = block x0 x4 x5 (k0_pay2 (F := F) x1 x2 x3) x6 x7 := by
  funext y
  have key := stored x0 x4 x5 (k0_pay2 (F := F) x1 x2 x3) x6 x7
  have cover := cover0_A_8 (F := F) c i arg1 harg1 arg2 harg2 arg3 harg3 arg4 harg4 arg5 harg5 arg6 harg6 arg7 harg7 arg8 harg8 arg9 harg9 arg10 harg10 hc0
      x0 x1 x2 x3 x4 x5 x6 x7 y
  unfold out0_A_8
  rw [View.read_writes_junk_eq_canon]
  refine View.canon_apply_of_pieces _ _ (View.PiecesOf.mem ?_) y cover
  clear cover
  frame_open
  simp (disch := decide) only [↓ View.readCov_skip, ↓ View.readCov_cons_toLoadRect, ↓ View.readCov_fill]
  frame_out
  repeat'
    first
    | exact trivial
    | refine And.intro (fun z => ?_) ?_
    | refine Eq.trans ?_ (key _ (by decide) (by decide) (by decide) _).symm
      refine congrFun ?_ _
      rfl

end Cert.Blocks

end
-- ==== Proof.Scratch.lean ====
/- What the scratch holds after every grid point, and with it what every grid point leaves in the output's staged block. -/
module

public import proofs.«01_k».proof.Proof.BlocksFirst
public import proofs.«01_k».proof.Proof.Gen.KernelIdeal.Frame
public import Idealize.ShloMosaic.Lib.Pipeline.ValueKit

@[expose] public section

noncomputable section

namespace Cert.Blocks

open Idealize.ShloMosaic Idealize.SL.Sem Cert.KernelIdeal Cert.KernelIdeal.Gen

variable {F : FTy → Type} [FloatOps F]
variable (m : (ℓ : Loc nD τ sig) → Buf (Elt F) ℓ) (c : Dev nD)

/-- Where the windows stand: the inputs and the output move by the point, the rest are whole arrays. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, t.val, 0] :=
  (by decide +kernel : ∀ t : Fin grid0.N, _)

theorem points_lt (t : Fin cfg0.N) : t.val < 8 := (by decide +kernel : ∀ t : Fin grid0.N, t.val < 8) t

theorem whole_1_of (t : Fin cfg0.N) (X : Vec F S64x128 .f32) : ((cfg0.win 1).blk t).view.read (Elt F) X = X := by blk_ext! [idx t]

theorem whole_1 (t : Fin cfg0.N) : iblk m c 1 t = V m c main_call0_v13 := whole_1_of t _
theorem whole_2 (t : Fin cfg0.N) : iblk m c 2 t = V m c main_arg11 := by blk_ext! [iblk, idx t]
theorem whole_3 (t : Fin cfg0.N) : iblk m c 3 t = V m c main_call0_v14 := by blk_ext! [iblk, idx t]
theorem whole_4 (t : Fin cfg0.N) : iblk m c 4 t = V m c main_call0_cst := by blk_ext! [iblk, idx t]
theorem whole_5 (t : Fin cfg0.N) : iblk m c 5 t = V m c main_call0_cst_0 := by blk_ext! [iblk, idx t]
theorem whole_6 (t : Fin cfg0.N) : iblk m c 6 t = V m c main_call0_v15 := by blk_ext! [iblk, idx t]
theorem whole_7 (t : Fin cfg0.N) : iblk m c 7 t = V m c main_call0_v16 := by blk_ext! [iblk, idx t]

/-- The scratch, as the first point fills it. -/
def fill : Vec F S64x256 .f32 := k0_pay2 (F := F) (V m c main_call0_v13) (V m c main_arg11) (V m c main_call0_v14)

theorem scratch_A (t : Fin cfg0.N) (h0 : t.val % 8 = 0) : (outsAt0 m c t.val t.isLt).2 = fill m c := by
  rw [outsAt0_A m c t h0]
  dsimp only
  frame_out
  rw [whole_1, whole_2, whole_3]
  rfl

/-- Every later point carries it on. -/
theorem scratch (n : ℕ) : ∀ hn : n < cfg0.N, (outsAt0 m c n hn).2 = fill m c := by
  induction n with
  | zero => exact fun hn => scratch_A m c ⟨0, hn⟩ rfl
  | succ n ih =>
    intro hn
    by_cases h0 : (n + 1) % 8 = 0
    · exact scratch_A m c ⟨n + 1, hn⟩ h0
    · rw [outsAt0_B m c ⟨n + 1, hn⟩ h0]
      dsimp only
      unfold sout0_B_0
      exact ih _

/-- The output's staged block after a point: the point's rows through the body, over the arrays. -/
theorem out_at (t : Fin cfg0.N) :
    (outsAt0 m c t.val t.isLt).1
      = block (iblk m c 0 t) (V m c main_call0_cst) (V m c main_call0_cst_0) (fill m c) (V m c main_call0_v15) (V m c main_call0_v16) := by
  by_cases h0 : t.val % 8 = 0
  · rw [outsAt0_A m c t h0]
    dsimp only
    rw [out_A, whole_1, whole_2, whole_3, whole_4, whole_5, whole_6, whole_7]
    rfl
  · rw [outsAt0_B m c t h0]
    dsimp only
    rw [out_B, whole_4, whole_5, whole_6, whole_7, scratch]

end Cert.Blocks

end
-- ==== Proof.Algebra.lean ====
/- The scalar mathematics, over the extended reals, with no program in sight:
   the two spellings of the exact GELU, the two spellings of the normalisation, and the row of the hidden layer computed
   from a selector over the rows of one stacked table. -/
module

public import Idealize.ShloMosaic.PureOps.Ideal
public import Idealize.ShloMosaic.PureOps.Ideal.Laws

@[expose] public section

noncomputable section

namespace Cert.Algebra

open Idealize.ShloMosaic

/-- The error function has a finite value at every extended real. -/
theorem erf_real (x : EReal) : ∃ r : ℝ, Ideal.erf x = (r : EReal) := by
  induction x with
  | bot => exact ⟨-1, by simp⟩
  | top => exact ⟨1, by simp⟩
  | coe r => exact ⟨_, Ideal.erf_coe r⟩

/-- `h · (½ · erf (h·c) + ½) = (½·h) · erfc (−h·c)`. -/
theorem gelu (h c : EReal) :
    h * (((1 / 2 : ℝ) : EReal) * Ideal.erf (h * c) + ((1 / 2 : ℝ) : EReal)) = (((1 / 2 : ℝ) : EReal) * h) * Ideal.erfc (-h * c) := by
  rw [neg_mul, Ideal.erfc_neg]
  obtain ⟨r, hr⟩ := erf_real (h * c)
  rw [hr, mul_comm (((1 / 2 : ℝ) : EReal)) h, mul_assoc]
  congr 1
  rw [← EReal.coe_one, ← EReal.coe_mul, ← EReal.coe_add, ← EReal.coe_add, ← EReal.coe_mul]
  congr 1
  ring

/-- A square is not negative. -/
theorem sq_nonneg (x : EReal) : 0 ≤ x * x := by
  rcases le_total 0 x with h | h
  · exact mul_nonneg h h
  · have h' : 0 ≤ -x := by simpa using EReal.neg_le_neg_iff.2 h
    have := mul_nonneg h' h'
    rwa [neg_mul_neg] at this

/-- `x · rsqrt z = x / sqrt z` for `z > 0`. -/
theorem mul_rsqrt (x z : EReal) (hz : 0 < z) : x * Ideal.rsqrt z = Ideal.div x (Ideal.sqrt z) := by
  induction z with
  | bot => exact absurd hz (by simp)
  | top => simp [Ideal.div]
  | coe r =>
    have hr : 0 < r := by exact_mod_cast hz
    have hs : Real.sqrt r ≠ 0 := (Real.sqrt_pos.2 hr).ne'
    rw [Ideal.rsqrt_coe, Ideal.sqrt_coe, if_neg (not_lt.2 hr.le), if_neg hr.ne', if_neg (not_lt.2 hr.le), Ideal.div_coe hs, one_div]

/-- A mean of squares plus a positive real is positive. -/
theorem var_pos (d : Fin 256 → EReal) (e : ℝ) (he : 0 < e) :
    0 < Ideal.div (∑ k, d k * d k) ((256 : ℝ) : EReal) + (e : EReal) := by
  rw [Ideal.div_coe (by norm_num)]
  have h1 : 0 ≤ ∑ k, d k * d k := Finset.sum_nonneg fun k _ => sq_nonneg (d k)
  have h2 : 0 ≤ (∑ k, d k * d k) * ((1 / 256 : ℝ) : EReal) := mul_nonneg h1 (by exact_mod_cast (by norm_num : (0 : ℝ) ≤ 1 / 256))
  have he' : (0 : EReal) < (e : EReal) := by exact_mod_cast he
  exact lt_of_lt_of_le he' (le_add_of_nonneg_left h2)

/-- The sum of reals, read in the extended reals. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- Multiplying by a real distributes over adding a real to an extended real. -/
theorem real_add_mul (r w : ℝ) (b : EReal) : ((r : EReal) + b) * (w : EReal) = (r : EReal) * (w : EReal) + b * (w : EReal) := by
  induction b with
  | coe t => rw [← EReal.coe_add, ← EReal.coe_mul, ← EReal.coe_mul, ← EReal.coe_mul, ← EReal.coe_add, add_mul]
  | bot =>
    rcases lt_trichotomy w 0 with h | rfl | h
    · rw [EReal.add_bot, EReal.bot_mul_coe_of_neg h, ← EReal.coe_mul, EReal.coe_add_top]
    · simp
    · rw [EReal.add_bot, EReal.bot_mul_coe_of_pos h, EReal.add_bot]
  | top =>
    rcases lt_trichotomy w 0 with h | rfl | h
    · rw [EReal.coe_add_top, EReal.top_mul_coe_of_neg h, EReal.add_bot]
    · simp
    · rw [EReal.coe_add_top, EReal.top_mul_coe_of_pos h, ← EReal.coe_mul, EReal.coe_add_top]

/-- Multiplying a sum by a number that is `0`, `1`, or a real when the terms are reals, multiplies each term. -/
theorem mul_sum_zero_one {ι : Type} [Fintype ι] (c : EReal) (hc : c = 0 ∨ c = 1) (f : ι → EReal) (p : EReal) :
    c * (∑ d, f d + p) = ∑ d, c * f d + c * p := by
  rcases hc with rfl | rfl <;> simp

theorem mul_sum_real {ι : Type} [Fintype ι] (c : ℝ) (f : ι → EReal) (hf : ∀ d, ∃ r : ℝ, f d = (r : EReal)) :
    (c : EReal) * (∑ d, f d) = ∑ d, (c : EReal) * f d := by
  choose g hg using hf
  simp only [hg, ← EReal.coe_mul]
  rw [← coe_sum, ← EReal.coe_mul, ← coe_sum, Finset.mul_sum]

/-- The hidden row: a selector `M` over the 64 rows of the stacked table `T`, each row already multiplied by the
    projection `W` and row 52 carrying the projection's bias `p`, gives the projection of the embedded row `E`, when at every
    embedding coordinate the selected entries add up to `E`'s term. -/
theorem hidden (M : Fin 64 → EReal) (T : Fin 64 → Fin 128 → EReal) (W E : Fin 128 → EReal) (p : EReal) (x : ℝ)
    (h01 : ∀ k : Fin 64, k ≠ 53 → M k = 0 ∨ M k = 1) (h52 : M 52 = 1) (h53 : M 53 = (x : EReal))
    (hreal : ∀ d, ∃ r : ℝ, T 53 d * W d = (r : EReal))
    (hE : ∀ d, ∑ k, M k * (T k d * W d) = E d * W d) :
    ∑ k, M k * (∑ d, T k d * W d + (if k = 52 then 1 else 0) * p) = ∑ d, E d * W d + p := by
  have step : ∀ k : Fin 64, M k * (∑ d, T k d * W d + (if k = 52 then 1 else 0) * p)
      = ∑ d, M k * (T k d * W d) + (if k = 52 then p else 0) := by
    intro k
    by_cases hk : k = 53
    · subst hk
      rw [h53, if_neg (by decide), if_neg (by decide), zero_mul, add_zero, add_zero]
      exact mul_sum_real x _ hreal
    · rw [mul_sum_zero_one _ (h01 k hk)]
      congr 1
      by_cases h : k = 52
      · subst h; rw [h52, if_pos rfl, if_pos rfl, one_mul, one_mul]
      · rw [if_neg h, if_neg h, zero_mul, mul_zero]
  rw [Finset.sum_congr rfl fun k _ => step k, Finset.sum_add_distrib, Finset.sum_comm]
  rw [Finset.sum_congr rfl fun d _ => hE d]
  congr 1
  rw [Finset.sum_ite_eq' Finset.univ (52 : Fin 64) (fun _ => p)]
  simp

/-- One selected row: the sum over the rows is the one term the selector keeps. -/
theorem one_row (M : Fin 64 → EReal) (T : Fin 64 → EReal) (w e : EReal) (k₀ : Fin 64) (hM : M k₀ = 1) (hT : T k₀ = e)
    (h0 : ∀ k, k ≠ k₀ → M k = 0 ∨ T k = 0) : ∑ k, M k * (T k * w) = e * w := by
  rw [Finset.sum_eq_single k₀ (fun k _ hk => by rcases h0 k hk with h | h <;> rw [h] <;> simp) (by simp), hM, hT, one_mul]

/-- The number's own coordinates: rows 52 and 53 alone hold anything there. -/
theorem num_rows (M : Fin 64 → EReal) (T : Fin 64 → EReal) (x a w : ℝ) (b : EReal) (hM52 : M 52 = 1) (hM53 : M 53 = (x : EReal))
    (hT52 : T 52 = b) (hT53 : T 53 = (a : EReal)) (h0 : ∀ k, k ≠ 52 → k ≠ 53 → T k = 0) :
    ∑ k, M k * (T k * (w : EReal)) = ((x : EReal) * (a : EReal) + b) * (w : EReal) := by
  have hsub : ∑ k ∈ ({52, 53} : Finset (Fin 64)), M k * (T k * (w : EReal)) = ∑ k, M k * (T k * (w : EReal)) :=
    Finset.sum_subset (Finset.subset_univ _) fun k _ hk => by
      rw [Finset.mem_insert, Finset.mem_singleton, not_or] at hk
      rw [h0 k hk.1 hk.2, zero_mul, mul_zero]
  rw [← hsub, Finset.sum_pair (by decide), hM52, hM53, hT52, hT53, one_mul, ← mul_assoc]
  rw [← EReal.coe_mul x a, real_add_mul, add_comm]

end Cert.Algebra

end
-- ==== Proof.Row.lean ====
/- The layers above the hidden one, of a single row of 256 lanes: as the kernel spells them and as the reference does. The two
   are one function. Nothing here speaks of a program. -/
module

public import proofs.«01_k».proof.Proof.Algebra
public import proofs.«01_k».proof.Proof.Consts

@[expose] public section

noncomputable section

namespace Cert.Row

open Idealize.ShloMosaic

/-- The row less its mean. -/
def centred (y : Fin 256 → EReal) (n : Fin 256) : EReal := y n - Ideal.div (∑ j, y j) ((256 : ℝ) : EReal)

/-- The row's mean square, guarded. -/
def guarded (d : Fin 256 → EReal) : EReal := Ideal.div (∑ j, d j * d j) ((256 : ℝ) : EReal) + Ideal.ofBits .f32 0x3727C5AC#32

/-- The GELU by the error function. -/
def geluErf (h : Fin 256 → EReal) (n : Fin 256) : EReal :=
  h n * (((1 / 2 : ℝ) : EReal) * Ideal.erf (h n * Ideal.ofBits .f32 0x3F3504F3#32) + ((1 / 2 : ℝ) : EReal))

/-- The GELU by the complementary error function. -/
def geluErfc (h : Fin 256 → EReal) (n : Fin 256) : EReal :=
  (((1 / 2 : ℝ) : EReal) * h n) * Ideal.erfc (-h n * Ideal.ofBits .f32 0x3F3504F3#32)

/-- The layers as the kernel spells them. -/
def byRsqrt (h g b : Fin 256 → EReal) (n : Fin 256) : EReal :=
  centred (geluErf h) n * Ideal.rsqrt (guarded (centred (geluErf h))) * g n + b n

/-- The layers as the reference spells them. -/
def bySqrt (h g b : Fin 256 → EReal) (n : Fin 256) : EReal :=
  Ideal.div (centred (geluErfc h) n) (Ideal.sqrt (guarded (centred (geluErfc h)))) * g n + b n

theorem guarded_pos (d : Fin 256 → EReal) : 0 < guarded d := by
  obtain ⟨e, he, h⟩ := Consts.eps
  unfold guarded
  rw [h]
  exact Algebra.var_pos d e he

theorem spellings (h g b : Fin 256 → EReal) (n : Fin 256) : byRsqrt h g b n = bySqrt h g b n := by
  have e : geluErf h = geluErfc h := funext fun j => Algebra.gelu _ _
  unfold byRsqrt bySqrt
  rw [e, Algebra.mul_rsqrt _ _ (guarded_pos _)]

end Cert.Row

end
-- ==== Proof.Spec.lean ====
/- The embedded row, twice: as the row that the reference looks up table by table, and as the selected rows of the one stacked
   table. The two have the same product with the projection. Nothing here speaks of a program. -/
module

public import proofs.«01_k».proof.Proof.Algebra

@[expose] public section

noncomputable section

namespace Cert.Spec

open Idealize.ShloMosaic

/-- The stacked table's first row of each categorical feature. -/
def first : Fin 7 → ℕ := ![0, 5, 8, 12, 18, 28, 47]

/-- How many rows each feature's table has. -/
def count : Fin 7 → ℕ := ![5, 3, 4, 6, 10, 19, 4]

/-- The first coordinate that each feature's table fills. -/
def column : Fin 7 → ℕ := ![0, 16, 24, 32, 48, 72, 104]

/-- How many coordinates it fills. -/
def width : Fin 7 → ℕ := ![16, 8, 8, 16, 24, 32, 8]

/-- The input that lane `k` listens to: the categorical feature whose row it is, or the number at lane 53. -/
def owner (k : Fin 64) : Option (Fin 8) :=
  if k.val < 5 then some 0 else if k.val < 8 then some 1 else if k.val < 12 then some 2 else if k.val < 18 then some 3
  else if k.val < 28 then some 4 else if k.val < 47 then some 5 else if k.val < 51 then some 6
  else if k.val = 53 then some 7 else none

theorem owner_row (f : Fin 7) (k : Fin 64) (h : first f ≤ k.val ∧ k.val < first f + count f) : owner k = some f.castSucc := by
  revert f k
  decide

/-- What the kernel multiplies the stacked table by: the number at lane 53, elsewhere 1 where the lane's sum is the lane's own index. -/
def selected (x : Fin 8 → EReal) (s : Fin 8 → Fin 64 → EReal) (b : Fin 64 → EReal) (k : Fin 64) : EReal :=
  if k = 53 then ∑ f, x f * s f k + b k else if ∑ f, x f * s f k + b k = ((k.val : ℝ) : EReal) then 1 else 0

/-- What the two constant arrays hold: each lane listens to its owner, and adds its feature's first row. -/
structure Lanes (s : Fin 8 → Fin 64 → EReal) (b : Fin 64 → EReal) : Prop where
  listens : ∀ f k, s f k = if owner k = some f then 1 else 0
  adds : ∀ (f : Fin 7) (k : Fin 64), first f ≤ k.val ∧ k.val < first f + count f → b k = ((first f : ℝ) : EReal)
  one : b 52 = ((52 : ℝ) : EReal)
  number : b 53 = 0

variable {x : Fin 8 → EReal} {s : Fin 8 → Fin 64 → EReal} {b : Fin 64 → EReal}

theorem owned (hl : Lanes s b) (k : Fin 64) (f : Fin 8) (h : owner k = some f) : ∑ g, x g * s g k = x f := by
  rw [Finset.sum_eq_single f (fun g _ hg => by
    rw [hl.listens, h, if_neg (fun e => hg (Option.some.inj e).symm), mul_zero]) (by simp), hl.listens, if_pos h, mul_one]

theorem unowned (hl : Lanes s b) (k : Fin 64) (h : owner k = none) : ∑ g, x g * s g k = 0 :=
  Finset.sum_eq_zero fun g _ => by rw [hl.listens, h, if_neg (by simp), mul_zero]

theorem selected_row (hl : Lanes s b) (f : Fin 7) (c : ℕ) (hx : x f.castSucc = ((c : ℝ) : EReal)) (k : Fin 64)
    (hk : first f ≤ k.val ∧ k.val < first f + count f) : selected x s b k = if k.val = first f + c then 1 else 0 := by
  have h53 : k ≠ 53 := by
    rintro rfl
    exact absurd (owner_row f 53 hk) (by clear hk hx; revert f; decide)
  unfold selected
  rw [if_neg h53, owned hl k _ (owner_row f k hk), hl.adds f k hk, hx, ← EReal.coe_add]
  refine if_congr (EReal.coe_eq_coe_iff.trans ?_) rfl rfl
  constructor
  · intro e
    have e' : c + first f = k.val := by exact_mod_cast e
    omega
  · intro e
    rw [e]
    push_cast
    ring

theorem selected_one (hl : Lanes s b) : selected x s b 52 = 1 := by
  unfold selected
  rw [if_neg (by decide), unowned hl 52 (by decide), hl.one, zero_add, if_pos]
  norm_num

theorem selected_number (hl : Lanes s b) : selected x s b 53 = x 7 := by
  unfold selected
  rw [if_pos rfl, owned hl 53 7 (by decide), hl.number, add_zero]

theorem selected_bit (k : Fin 64) (h : k ≠ 53) : selected x s b k = 0 ∨ selected x s b k = 1 := by
  unfold selected
  rw [if_neg h]
  split
  · exact Or.inr rfl
  · exact Or.inl rfl

/-- The stacked table: each feature's table at its rows and columns, the number's weights and bias in rows 53 and 52. -/
def stacked (tab : Fin 7 → ℕ → ℕ → EReal) (nw nb : ℕ → EReal) (k d : ℕ) : EReal :=
  if k = 52 ∧ 112 ≤ d then nb (d - 112)
  else if k = 53 ∧ 112 ≤ d then nw (d - 112)
  else if (47 ≤ k ∧ k < 51) ∧ 104 ≤ d ∧ d < 112 then tab 6 (k - 47) (d - 104)
  else if (28 ≤ k ∧ k < 47) ∧ 72 ≤ d ∧ d < 104 then tab 5 (k - 28) (d - 72)
  else if (18 ≤ k ∧ k < 28) ∧ 48 ≤ d ∧ d < 72 then tab 4 (k - 18) (d - 48)
  else if (12 ≤ k ∧ k < 18) ∧ 32 ≤ d ∧ d < 48 then tab 3 (k - 12) (d - 32)
  else if (8 ≤ k ∧ k < 12) ∧ 24 ≤ d ∧ d < 32 then tab 2 (k - 8) (d - 24)
  else if (5 ≤ k ∧ k < 8) ∧ 16 ≤ d ∧ d < 24 then tab 1 (k - 5) (d - 16)
  else if k < 5 ∧ d < 16 then tab 0 k d
  else 0

/-- The embedded row: each feature's row of its table, then the number times its weights plus its bias. -/
def embedded (tab : Fin 7 → ℕ → ℕ → EReal) (c : Fin 7 → ℕ) (u : EReal) (nw nb : ℕ → EReal) (d : ℕ) : EReal :=
  if d < 16 then tab 0 (c 0) d
  else if d < 24 then tab 1 (c 1) (d - 16)
  else if d < 32 then tab 2 (c 2) (d - 24)
  else if d < 48 then tab 3 (c 3) (d - 32)
  else if d < 72 then tab 4 (c 4) (d - 48)
  else if d < 104 then tab 5 (c 5) (d - 72)
  else if d < 112 then tab 6 (c 6) (d - 104)
  else u * nw (d - 112) + nb (d - 112)

variable (tab : Fin 7 → ℕ → ℕ → EReal) (nw nb : ℕ → EReal)

theorem stacked_feature (f : Fin 7) (k d : ℕ) (hd : column f ≤ d ∧ d < column f + width f) :
    stacked tab nw nb k d = if first f ≤ k ∧ k < first f + count f then tab f (k - first f) (d - column f) else 0 := by
  by_cases hk : first f ≤ k ∧ k < first f + count f
  · rw [if_pos hk]
    fin_cases f <;> simp [column, width, first, count] at hd hk ⊢ <;> unfold stacked
    all_goals repeat' first | rw [if_neg (by omega)] | rw [if_pos (by omega)]
  · rw [if_neg hk]
    fin_cases f <;> simp [column, width, first, count] at hd hk ⊢ <;> unfold stacked
    all_goals repeat' first | rfl | rw [if_neg (by omega)]

theorem stacked_number (k d : ℕ) (hd : 112 ≤ d) :
    stacked tab nw nb k d = if k = 52 then nb (d - 112) else if k = 53 then nw (d - 112) else 0 := by
  unfold stacked
  split_ifs <;> first | rfl | omega | rw [if_pos (by omega)] | rw [if_neg (by omega)]

theorem embedded_feature (c : Fin 7 → ℕ) (u : EReal) (f : Fin 7) (d : ℕ) (hd : column f ≤ d ∧ d < column f + width f) :
    embedded tab c u nw nb d = tab f (c f) (d - column f) := by
  fin_cases f <;> simp [column, width] at hd ⊢ <;> unfold embedded
  all_goals repeat' first | rw [if_neg (by omega)] | rw [if_pos (by omega)]

theorem embedded_number (c : Fin 7 → ℕ) (u : EReal) (d : ℕ) (hd : 112 ≤ d) :
    embedded tab c u nw nb d = u * nw (d - 112) + nb (d - 112) := by
  unfold embedded
  split_ifs <;> first | rfl | omega | rw [if_pos (by omega)] | rw [if_neg (by omega)]

/-- Every coordinate is some feature's or the number's. -/
theorem coordinate (d : Fin 128) : (∃ f : Fin 7, column f ≤ d.val ∧ d.val < column f + width f) ∨ 112 ≤ d.val := by
  revert d
  decide

theorem fits (f : Fin 7) : first f + count f ≤ 51 := by
  revert f
  decide

/-- The selected rows of the stacked table, projected, are the embedded row, projected. -/
theorem hidden_eq (hl : Lanes s b) (c : Fin 7 → ℕ) (hc : ∀ f, c f < count f) (hx : ∀ f : Fin 7, x f.castSucc = ((c f : ℝ) : EReal))
    (u : ℝ) (hu : x 7 = (u : EReal)) (W : Fin 128 → EReal) (p : EReal) (hnw : ∀ y < 16, ∃ r : ℝ, nw y = (r : EReal))
    (hW : ∀ d : Fin 128, 112 ≤ d.val → ∃ r : ℝ, W d = (r : EReal)) :
    ∑ k : Fin 64, selected x s b k * (∑ d : Fin 128, stacked tab nw nb k.val d.val * W d + (if k = 52 then 1 else 0) * p)
      = ∑ d : Fin 128, embedded tab c (u : EReal) nw nb d.val * W d + p := by
  refine Algebra.hidden (selected x s b) (fun k d => stacked tab nw nb k.val d.val) W (fun d => embedded tab c (u : EReal) nw nb d.val) p u
    (fun k hk => selected_bit k hk) (selected_one hl) ((selected_number hl).trans hu) (fun d => ?_) fun d => ?_
  · rcases coordinate d with ⟨f, hd⟩ | hd
    · refine ⟨0, ?_⟩
      have := fits f
      show stacked tab nw nb 53 d.val * W d = _
      rw [stacked_feature tab nw nb f 53 d.val hd, if_neg (by omega), zero_mul, EReal.coe_zero]
    · obtain ⟨a, ha⟩ := hnw (d.val - 112) (by omega)
      obtain ⟨w, hw⟩ := hW d hd
      refine ⟨a * w, ?_⟩
      show stacked tab nw nb 53 d.val * W d = _
      rw [stacked_number tab nw nb 53 d.val hd, if_neg (by decide), if_pos rfl, ha, hw, EReal.coe_mul]
  · rcases coordinate d with ⟨f, hd⟩ | hd
    · have hf := fits f
      have hcf := hc f
      refine Algebra.one_row (selected x s b) (fun k => stacked tab nw nb k.val d.val) (W d) _ (⟨first f + c f, by omega⟩ : Fin 64) ?_ ?_ ?_
      · rw [selected_row hl f (c f) (hx f) _ ⟨Nat.le_add_right _ _, by show first f + c f < _; omega⟩, if_pos rfl]
      · show stacked tab nw nb (first f + c f) d.val = _
        rw [stacked_feature tab nw nb f _ _ hd, if_pos ⟨Nat.le_add_right _ _, by omega⟩, embedded_feature tab nw nb c _ f _ hd, Nat.add_sub_cancel_left]
      · intro k hk
        by_cases hr : first f ≤ k.val ∧ k.val < first f + count f
        · refine Or.inl ?_
          rw [selected_row hl f (c f) (hx f) k hr, if_neg (fun e => hk (Fin.ext e))]
        · refine Or.inr ?_
          show stacked tab nw nb k.val d.val = 0
          rw [stacked_feature tab nw nb f _ _ hd, if_neg hr]
    · obtain ⟨a, ha⟩ := hnw (d.val - 112) (by omega)
      obtain ⟨w, hw⟩ := hW d hd
      show ∑ k, selected x s b k * (stacked tab nw nb k.val d.val * W d) = embedded tab c (u : EReal) nw nb d.val * W d
      rw [embedded_number tab nw nb c _ _ hd, hw, ha]
      refine Algebra.num_rows (selected x s b) (fun k => stacked tab nw nb k.val d.val) u a w _ (selected_one hl) ((selected_number hl).trans hu) ?_ ?_ ?_
      · show stacked tab nw nb 52 d.val = _
        rw [stacked_number tab nw nb 52 d.val hd, if_pos rfl]
      · show stacked tab nw nb 53 d.val = _
        rw [stacked_number tab nw nb 53 d.val hd, if_neg (by decide), if_pos rfl, ha]
      · intro k h52 h53
        show stacked tab nw nb k.val d.val = 0
        rw [stacked_number tab nw nb _ d.val hd, if_neg (fun e : k.val = 52 => h52 (Fin.ext e)), if_neg (fun e : k.val = 53 => h53 (Fin.ext e))]

end Cert.Spec

end
-- ==== Proof.Slab.lean ====
/- One lane of one row of a stored slab, and one entry of the scratch, as sums over the arrays they are made of. -/
module

public import proofs.«01_k».proof.Proof.Blocks
public import proofs.«01_k».proof.Proof.Row
public import proofs.«01_k».proof.Proof.Spec

@[expose] public section

noncomputable section

namespace Cert.Blocks

open Idealize.ShloMosaic Cert.KernelIdeal Cert.KernelIdeal.Gen

/-- The hidden layer of one row: the selected lanes times the scratch. -/
def hiddenRow (x : Fin 8 → EReal) (s : Fin 8 → Fin 64 → EReal) (b : Fin 64 → EReal) (A : Fin 64 → Fin 256 → EReal) (n : Fin 256) : EReal :=
  ∑ k, Spec.selected x s b k * A k n

theorem slab_apply (x : FVec Ideal S512x400 .f32) (s : FVec Ideal S8x64 .f32) (base : FVec Ideal S1x64 .f32) (A : FVec Ideal S64x256 .f32)
    (g b : FVec Ideal S1x256 .f32) (l : Fin 50) (r : Fin 512) (n : Fin 256) :
    slab x s base A g b l (ix2 r n)
      = Row.byRsqrt (hiddenRow (fun f => x (ix2 r (⟨8 * l.val + f.val, by omega⟩ : Fin 400))) (fun f k => s (ix2 f k)) (fun k => base (ix2 (0 : Fin 1) k))
          (fun k n => A (ix2 k n))) (fun n => g (ix2 (0 : Fin 1) n)) (fun n => b (ix2 (0 : Fin 1) n)) n := by
  unfold slab
  simp only [Trip.normed_apply, Trip.centred_apply, Trip.gelu_apply, Trip.hiddenRows_apply, Trip.selector_apply, Trip.sums_apply]
  rfl

theorem block_apply (x : FVec Ideal S512x400 .f32) (s : FVec Ideal S8x64 .f32) (base : FVec Ideal S1x64 .f32) (A : FVec Ideal S64x256 .f32)
    (g b : FVec Ideal S1x256 .f32) (l : Fin 50) (r : Fin 512) (n : Fin 256) :
    block x s base A g b (ix3 l r n) = slab x s base A g b l (ix2 r n) := by
  refine congrArg (slab x s base A g b l) (funext fun a => ?_)
  match a with
  | ⟨0, _⟩ => rfl
  | ⟨1, _⟩ => rfl

/-- The scratch: the stacked table times the projection, the bias on row 52. -/
theorem fill_apply (T : FVec Ideal S64x128 .f32) (W : FVec Ideal S128x256 .f32) (p : FVec Ideal S1x256 .f32) (k : Fin 64) (n : Fin 256) :
    k0_pay2 (F := Ideal) T W p (ix2 k n)
      = ∑ d, T (ix2 k d) * W (ix2 d n) + (if k = 52 then 1 else 0) * p (ix2 (0 : Fin 1) n) := by
  pointwise [k0_pay2]
  congr 1
  have hk : IntOp.cmpi CmpIPredicate.eq (BitVec.ofNat 32 k.val) 52#32 = if k = 52 then 1#1 else 0#1 := by
    revert k
    decide
  rw [hk]
  by_cases h : k = 52
  · rw [if_pos h, if_pos h, one_mul]
    rfl
  · rw [if_neg h, if_neg h, zero_mul]
    rfl

end Cert.Blocks

end
-- ==== Proof.Array.lean ====
/- The output's array after the run: every row of the inputs through the body, one lane at a time. -/
module

public import proofs.«01_k».proof.Proof.Scratch
public import proofs.«01_k».proof.Proof.Slab

@[expose] public section

noncomputable section

namespace Cert.Blocks

open Idealize.ShloMosaic Idealize.SL.Sem Cert.KernelIdeal Cert.KernelIdeal.Gen

/-- Lane `n` of position `l` of row `a`, of whole arrays. -/
def lane (X : FVec Ideal S4096x400 .f32) (s : FVec Ideal S8x64 .f32) (base : FVec Ideal S1x64 .f32) (A : FVec Ideal S64x256 .f32)
    (g b : FVec Ideal S1x256 .f32) (l : Fin 50) (a : Fin 4096) (n : Fin 256) : EReal :=
  Row.byRsqrt (hiddenRow (fun f => X (ix2 a (⟨8 * l.val + f.val, by omega⟩ : Fin 400))) (fun f k => s (ix2 f k)) (fun k => base (ix2 (0 : Fin 1) k))
    (fun k n => A (ix2 k n))) (fun n => g (ix2 (0 : Fin 1) n)) (fun n => b (ix2 (0 : Fin 1) n)) n

/-- All of them. -/
def lanesOf (X : FVec Ideal S4096x400 .f32) (s : FVec Ideal S8x64 .f32) (base : FVec Ideal S1x64 .f32) (A : FVec Ideal S64x256 .f32)
    (g b : FVec Ideal S1x256 .f32) : FVec Ideal S50x4096x256 .f32 :=
  fun i => lane X s base A g b (i 0) (i 1) (i 2)

/-- A block whose rows are rows of the whole array holds those lanes. -/
theorem block_lane (x : FVec Ideal S512x400 .f32) (X : FVec Ideal S4096x400 .f32) (s : FVec Ideal S8x64 .f32) (base : FVec Ideal S1x64 .f32)
    (A : FVec Ideal S64x256 .f32) (g b : FVec Ideal S1x256 .f32) (l : Fin 50) (r : Fin 512) (n : Fin 256) (a : Fin 4096)
    (h : ∀ j : Fin 400, x (ix2 r j) = X (ix2 a j)) :
    block x s base A g b (ix3 l r n) = lane X s base A g b l a n := by
  rw [block_apply, slab_apply]
  unfold lane
  simp only [h]

variable (m : (ℓ : Loc nD τ sig) → Buf (Elt Ideal) ℓ) (c : Dev nD)

/-- The inputs' block at a point reads the rows the point's output goes to. -/
theorem rows_of (t : Fin cfg0.N) (X : FVec Ideal S4096x400 .f32) (r : Fin 512) (j : Fin 400) (a : Fin 4096) (ha : a.val = 512 * t.val + r.val) :
    ((cfg0.win 0).blk t).view.read (Elt Ideal) X (ix2 r j) = X (ix2 a j) := by
  blk_ext [idx t]

/-- Where the point's block of the output lies. -/
theorem emb_of (t : Fin cfg0.N) (l : Fin 50) (r : Fin 512) (n : Fin 256) (a : Fin 4096) (ha : a.val = 512 * t.val + r.val) :
    (((cfg0.win 8).blk t).view.emb (ix3 l r n) : S50x4096x256.Idx) = ix3 l a n := by
  blk_ext [idx t]

theorem final : (dats (F := Ideal) m 0 c).arrAt 8 cfg0.N
    = lanesOf (V m c main_call0_v2) (V m c main_call0_cst) (V m c main_call0_cst_0) (fill m c) (V m c main_call0_v15) (V m c main_call0_v16) := by
  refine (dats (F := Ideal) m 0 c).arrAt_eq_of_covers 8 _ (by decide +kernel) fun t hf y => ?_
  blk_simp
  rw [after0_8, out_at]
  have ht := points_lt t
  have hr : (y 1).val < 512 := (y 1).isLt
  have ey : y = ix3 (y 0 : Fin 50) (y 1 : Fin 512) (y 2 : Fin 256) := by blk_ext
  rw [ey]
  refine (block_lane _ (V m c main_call0_v2) _ _ _ _ _ (y 0) (y 1) (y 2) (⟨512 * t.val + (y 1).val, by omega⟩ : Fin 4096)
    (fun j => rows_of t _ _ _ _ rfl)).trans ?_
  exact (congrArg (lanesOf (V m c main_call0_v2) (V m c main_call0_cst) (V m c main_call0_cst_0) (fill m c) (V m c main_call0_v15) (V m c main_call0_v16))
    (emb_of t (y 0) (y 1) (y 2) (⟨512 * t.val + (y 1).val, by omega⟩ : Fin 4096) rfl)).symm

end Cert.Blocks

end
-- ==== Proof.Cells.lean ====
/- A matrix read at whole numbers, zero outside it, and a block stamped into a larger matrix read the same way. -/
module

public import Idealize.ShloMosaic.Lib.WordCmp
public import Idealize.ShloMosaic.Lib.Pointwise
public import Idealize.ShloMosaic.Lib.ValueIdx

@[expose] public section

noncomputable section

namespace Cert.Cells

open Idealize.ShloMosaic

/-- Row `r`, column `y` of a matrix; zero outside. -/
def cell {n w : ℕ} (t : FVec Ideal ⟨2, ![n, w]⟩ .f32) (r y : ℕ) : EReal :=
  if h : r < n ∧ y < w then t (ix2 ⟨r, h.1⟩ ⟨y, h.2⟩) else 0

theorem cell_at {n w : ℕ} (t : FVec Ideal ⟨2, ![n, w]⟩ .f32) (r : Fin n) (y : Fin w) : cell t r.val y.val = t (ix2 r y) :=
  dif_pos ⟨r.isLt, y.isLt⟩

/-- Entry `y` of a vector; zero outside. -/
def entry {w : ℕ} (v : FVec Ideal ⟨1, ![w]⟩ .f32) (y : ℕ) : EReal :=
  if h : y < w then v (ix1 ⟨y, h⟩) else 0

theorem entry_at {w : ℕ} (v : FVec Ideal ⟨1, ![w]⟩ .f32) (y : Fin w) : entry v y.val = v (ix1 y) :=
  dif_pos y.isLt

/-- The seven tables, read at whole numbers. -/
def tables (t0 : FVec Ideal ⟨2, ![5, 16]⟩ .f32) (t1 : FVec Ideal ⟨2, ![3, 8]⟩ .f32) (t2 : FVec Ideal ⟨2, ![4, 8]⟩ .f32)
    (t3 : FVec Ideal ⟨2, ![6, 16]⟩ .f32) (t4 : FVec Ideal ⟨2, ![10, 24]⟩ .f32) (t5 : FVec Ideal ⟨2, ![19, 32]⟩ .f32)
    (t6 : FVec Ideal ⟨2, ![4, 8]⟩ .f32) : Fin 7 → ℕ → ℕ → EReal :=
  ![cell t0, cell t1, cell t2, cell t3, cell t4, cell t5, cell t6]

/-- The matrix `x` with the block `u` written over it at row `p` and column `q`. -/
def stamp {N W n w : ℕ} (x : FVec Ideal ⟨2, ![N, W]⟩ .f32) (u : FVec Ideal ⟨2, ![n, w]⟩ .f32) (p q : BitVec 32) (i : (⟨0, ![]⟩ : Shape).Idx)
    (h : (⟨2, ![N, W]⟩ : Shape).Slices (fun _ => 0) ⟨2, ![n, w]⟩) : FVec Ideal ⟨2, ![N, W]⟩ .f32 :=
  Host.dynamicUpdateSlice x u (fun k => (![constantI ⟨0, ![]⟩ 32 p, constantI ⟨0, ![]⟩ 32 q] k i).toInt) h

/-- Inside the block it is the block, outside what was there. -/
theorem stamp_apply {N W n w : ℕ} (x : FVec Ideal ⟨2, ![N, W]⟩ .f32) (u : FVec Ideal ⟨2, ![n, w]⟩ .f32) (p q : BitVec 32) (i : (⟨0, ![]⟩ : Shape).Idx)
    (h : (⟨2, ![N, W]⟩ : Shape).Slices (fun _ => 0) ⟨2, ![n, w]⟩) (P Q : ℕ) (hp : p.toInt = P) (hq : q.toInt = Q) (hP : P + n ≤ N) (hQ : Q + w ≤ W)
    (k : Fin N) (d : Fin W) :
    stamp x u p q i h (ix2 k d) = if (P ≤ k.val ∧ k.val < P + n) ∧ Q ≤ d.val ∧ d.val < Q + w then cell u (k.val - P) (d.val - Q) else x (ix2 k d) := by
  have hs : (⟨2, ![N, W]⟩ : Shape).Slices ![P, Q] ⟨2, ![n, w]⟩ := ⟨rfl, fun a => by
    match a with
    | ⟨0, _⟩ => exact hP
    | ⟨1, _⟩ => exact hQ⟩
  unfold stamp
  rw [WordCmp.dynamicUpdateSlice_eq_update x u _ h ![P, Q] hs (fun a => by
    match a with
    | ⟨0, _⟩ => exact hp
    | ⟨1, _⟩ => exact hq)]
  unfold updateSlice
  by_cases hin : (P ≤ k.val ∧ k.val < P + n) ∧ Q ≤ d.val ∧ d.val < Q + w
  · rw [if_pos hin, dif_pos (fun a => by
      match a with
      | ⟨0, _⟩ => exact hin.1
      | ⟨1, _⟩ => exact hin.2)]
    unfold cell
    rw [dif_pos (by omega)]
    refine congrArg u (funext fun a => Fin.ext ?_)
    match a with
    | ⟨0, _⟩ => rfl
    | ⟨1, _⟩ => rfl
  · rw [if_neg hin, dif_neg (fun e => hin ⟨e (0 : Fin 2), e (1 : Fin 2)⟩)]

end Cert.Cells

end
-- ==== Proof.Prefix.lean ====
/- The arrays that the host builds before the launch, at an index. -/
module

public import proofs.«01_k».proof.Proof.Gen.KernelIdeal.Frame
public import Idealize.ShloMosaic.Lib.Pipeline.ValueKit
public import Idealize.ShloMosaic.Lib.StableHlo.RunClose
public import proofs.«01_k».proof.Proof.Consts
public import proofs.«01_k».proof.Proof.Spec
public import proofs.«01_k».proof.Proof.Cells

@[expose] public section

set_option maxRecDepth 16384

noncomputable section

namespace Cert.Prefix

open Idealize.ShloMosaic Idealize.SL.Sem Cert.KernelIdeal Cert.KernelIdeal.Gen

variable (m : (ℓ : Loc nD τ sig) → Buf (Elt Ideal) ℓ) (c : Dev nD)

/-- The stacked table that the host writes: the seven tables, then the number's weights and its bias, stamped into zeros. -/
def table (t0 : FVec Ideal S5x16 .f32) (t1 : FVec Ideal S3x8 .f32) (t2 : FVec Ideal S4x8 .f32) (t3 : FVec Ideal S6x16 .f32) (t4 : FVec Ideal S10x24 .f32)
    (t5 : FVec Ideal S19x32 .f32) (t6 : FVec Ideal S4x8 .f32) (w : FVec Ideal S1x16 .f32) (v : FVec Ideal S16 .f32) : FVec Ideal S64x128 .f32 :=
  Cells.stamp (Cells.stamp (Cells.stamp (Cells.stamp (Cells.stamp (Cells.stamp (Cells.stamp (Cells.stamp (Cells.stamp
    (broadcastInDim S64x128 ![] bcast_S_S64x128 (constant S_ .f32 0x00000000#32))
    t0 0#32 0#32 (Shape.Idx.first h_S_) updateFits_S64x128_S5x16) t1 5#32 16#32 (Shape.Idx.first h_S_) updateFits_S64x128_S3x8) t2 8#32 24#32 (Shape.Idx.first h_S_) updateFits_S64x128_S4x8)
    t3 12#32 32#32 (Shape.Idx.first h_S_) updateFits_S64x128_S6x16) t4 18#32 48#32 (Shape.Idx.first h_S_) updateFits_S64x128_S10x24) t5 28#32 72#32 (Shape.Idx.first h_S_) updateFits_S64x128_S19x32)
    t6 47#32 104#32 (Shape.Idx.first h_S_) updateFits_S64x128_S4x8) w 53#32 112#32 (Shape.Idx.first h_S_) updateFits_S64x128_S1x16)
    (shapeCast S1x16 v shapeCasts_S16_S1x16) 52#32 112#32 (Shape.Idx.first h_S_) updateFits_S64x128_S1x16

/-- A vector made a one-row matrix holds the same entries. -/
theorem cell_row (v : FVec Ideal S16 .f32) : Cells.cell (shapeCast S1x16 v shapeCasts_S16_S1x16) 0 = Cells.entry v := by
  funext y
  by_cases h : y < 16
  · refine (Cells.cell_at _ (0 : Fin 1) (⟨y, h⟩ : Fin 16)).trans (Eq.trans ?_ (Cells.entry_at v (⟨y, h⟩ : Fin 16)).symm)
    pointwise
  · unfold Cells.cell Cells.entry
    rw [dif_neg (by omega), dif_neg h]

theorem table_apply (t0 : FVec Ideal S5x16 .f32) (t1 : FVec Ideal S3x8 .f32) (t2 : FVec Ideal S4x8 .f32) (t3 : FVec Ideal S6x16 .f32)
    (t4 : FVec Ideal S10x24 .f32) (t5 : FVec Ideal S19x32 .f32) (t6 : FVec Ideal S4x8 .f32) (w : FVec Ideal S1x16 .f32) (v : FVec Ideal S16 .f32)
    (k : Fin 64) (d : Fin 128) :
    table t0 t1 t2 t3 t4 t5 t6 w v (ix2 k d)
      = Spec.stacked (Cells.tables t0 t1 t2 t3 t4 t5 t6) (Cells.cell w 0) (Cells.entry v) k.val d.val := by
  have hz : (broadcastInDim S64x128 ![] bcast_S_S64x128 (constant S_ .f32 0x00000000#32) : FVec Ideal S64x128 .f32) (ix2 k d) = 0 := Consts.zero
  rw [← cell_row]
  unfold table
  rw [Cells.stamp_apply _ _ _ _ _ _ 52 112 rfl rfl (by decide) (by decide), Cells.stamp_apply _ _ _ _ _ _ 53 112 rfl rfl (by decide) (by decide),
    Cells.stamp_apply _ _ _ _ _ _ 47 104 rfl rfl (by decide) (by decide), Cells.stamp_apply _ _ _ _ _ _ 28 72 rfl rfl (by decide) (by decide),
    Cells.stamp_apply _ _ _ _ _ _ 18 48 rfl rfl (by decide) (by decide), Cells.stamp_apply _ _ _ _ _ _ 12 32 rfl rfl (by decide) (by decide),
    Cells.stamp_apply _ _ _ _ _ _ 8 24 rfl rfl (by decide) (by decide), Cells.stamp_apply _ _ _ _ _ _ 5 16 rfl rfl (by decide) (by decide),
    Cells.stamp_apply _ _ _ _ _ _ 0 0 rfl rfl (by decide) (by decide), hz]
  have hk := k.isLt
  have hd := d.isLt
  unfold Spec.stacked
  by_cases h1 : k.val = 52 ∧ 112 ≤ d.val
  · rw [if_pos (by omega), if_pos h1, h1.1]
  by_cases h2 : k.val = 53 ∧ 112 ≤ d.val
  · rw [if_neg (by omega), if_pos (by omega), if_neg h1, if_pos h2, h2.1]
  rw [if_neg (by omega), if_neg (by omega), if_neg h1, if_neg h2]
  refine if_congr (by omega) rfl (if_congr (by omega) rfl (if_congr (by omega) rfl (if_congr (by omega) rfl (if_congr (by omega) rfl
    (if_congr (by omega) rfl (if_congr (by omega) rfl rfl))))))

theorem V_table : (V (F := Ideal) m c main_call0_v13 : FVec Ideal S64x128 .f32)
    = table (m (c, Proc.tc.devRef main_arg2)) (m (c, Proc.tc.devRef main_arg3)) (m (c, Proc.tc.devRef main_arg4)) (m (c, Proc.tc.devRef main_arg5))
        (m (c, Proc.tc.devRef main_arg6)) (m (c, Proc.tc.devRef main_arg7)) (m (c, Proc.tc.devRef main_arg8)) (m (c, Proc.tc.devRef main_arg9))
        (m (c, Proc.tc.devRef main_arg10)) := by
  unfold V V0
  simp only [hostOps0, List.flatten_cons, List.flatten_nil, List.append_nil, List.cons_append, List.nil_append]
  after_results_simp_entrywise
  rfl

/-- The eight inputs of every row and position, side by side. -/
def inputs (x0 : IVec S4096x50x7 32) (x1 : FVec Ideal S4096x50x1 .f32) : FVec Ideal S4096x400 .f32 :=
  shapeCast S4096x400 (concatenate S4096x50x8 2 [⟨S4096x50x7, sitofp .f32 x0⟩, ⟨S4096x50x1, x1⟩] concatenates_S4096x50x7_S4096x50x1_S4096x50x8_d2)
    shapeCasts_S4096x50x8_S4096x400

theorem V_inputs : (V (F := Ideal) m c main_call0_v2 : FVec Ideal S4096x400 .f32)
    = inputs (m (c, Proc.tc.devRef main_arg0)) (m (c, Proc.tc.devRef main_arg1)) := by
  unfold V V0
  simp only [hostOps0, List.flatten_cons, List.flatten_nil, List.append_nil, List.cons_append, List.nil_append]
  after_results_simp_entrywise
  rfl

/-- Input `f` at position `l`: the category as a number, or the number. -/
theorem inputs_apply (x0 : IVec S4096x50x7 32) (x1 : FVec Ideal S4096x50x1 .f32) (a : Fin 4096) (l : Fin 50) (f : Fin 8) (j : Fin 400) (hj : j.val = 8 * l.val + f.val) :
    inputs x0 x1 (ix2 a j) = if h : f.val < 7 then (((x0 (ix3 a l ⟨f.val, h⟩)).toInt : ℝ) : EReal) else x1 (ix3 a l 0) := by
  unfold inputs
  pointwise
  have hl : j.val / 8 = l.val := by omega
  have hf : j.val % 8 = f.val := by omega
  simp only [hl, hf]
  split
  · rfl
  · exact congrArg x1 (congrArg (ix3 a l) (Subsingleton.elim _ _))

theorem V_bias : (V (F := Ideal) m c main_call0_v14 : FVec Ideal S1x256 .f32) = shapeCast S1x256 (m (c, Proc.tc.devRef main_arg12)) shapeCasts_S256_S1x256 := by
  unfold V V0
  simp only [hostOps0, List.flatten_cons, List.flatten_nil, List.append_nil, List.cons_append, List.nil_append]
  after_results_simp_entrywise
  rfl

theorem V_scale : (V (F := Ideal) m c main_call0_v15 : FVec Ideal S1x256 .f32) = shapeCast S1x256 (m (c, Proc.tc.devRef main_arg13)) shapeCasts_S256_S1x256 := by
  unfold V V0
  simp only [hostOps0, List.flatten_cons, List.flatten_nil, List.append_nil, List.cons_append, List.nil_append]
  after_results_simp_entrywise
  rfl

theorem V_shift : (V (F := Ideal) m c main_call0_v16 : FVec Ideal S1x256 .f32) = shapeCast S1x256 (m (c, Proc.tc.devRef main_arg14)) shapeCasts_S256_S1x256 := by
  unfold V V0
  simp only [hostOps0, List.flatten_cons, List.flatten_nil, List.append_nil, List.cons_append, List.nil_append]
  after_results_simp_entrywise
  rfl

/-- A row of 256 values made a one-row matrix holds the same values. -/
theorem row_apply (x : FVec Ideal S256 .f32) (n : Fin 256) : shapeCast S1x256 x shapeCasts_S256_S1x256 (ix2 (0 : Fin 1) n) = x (ix1 n) := by
  pointwise

theorem V_listens : (V (F := Ideal) m c main_call0_cst : FVec Ideal S8x64 .f32) = (fun i => FloatOps.ofBits .f32 (lit0 (S8x64.rowMajor i)) : FVec Ideal S8x64 .f32) := by
  unfold V V0
  simp only [hostOps0, List.flatten_cons, List.flatten_nil, List.append_nil, List.cons_append, List.nil_append]
  after_results_simp_entrywise
  rfl

theorem V_adds : (V (F := Ideal) m c main_call0_cst_0 : FVec Ideal S1x64 .f32) = (fun i => FloatOps.ofBits .f32 (lit1 (S1x64.rowMajor i)) : FVec Ideal S1x64 .f32) := by
  unfold V V0
  simp only [hostOps0, List.flatten_cons, List.flatten_nil, List.append_nil, List.cons_append, List.nil_append]
  after_results_simp_entrywise
  rfl

theorem listens_words : ∀ (f : Fin 8) (k : Fin 64), lit0 (S8x64.rowMajor (ix2 f k)) = if Spec.owner k = some f then 0x3F800000#32 else 0x00000000#32 := by
  decide +kernel

/-- The words of the seven first rows. -/
def firstWord : Fin 7 → BitVec 32 := ![0x00000000#32, 0x40A00000#32, 0x41000000#32, 0x41400000#32, 0x41900000#32, 0x41E00000#32, 0x423C0000#32]

theorem firstWord_eq (f : Fin 7) : Ideal.ofBits .f32 (firstWord f) = ((Spec.first f : ℝ) : EReal) := by
  fin_cases f
  · exact Consts.zero.trans (by norm_num [Spec.first])
  · exact Consts.row5.trans (by norm_num [Spec.first])
  · exact Consts.row8.trans (by norm_num [Spec.first])
  · exact Consts.row12.trans (by norm_num [Spec.first])
  · exact Consts.row18.trans (by norm_num [Spec.first])
  · exact Consts.row28.trans (by norm_num [Spec.first])
  · exact Consts.row47.trans (by norm_num [Spec.first])

theorem adds_words : ∀ (f : Fin 7) (k : Fin 64), Spec.first f ≤ k.val ∧ k.val < Spec.first f + Spec.count f → lit1 (S1x64.rowMajor (ix2 (0 : Fin 1) k)) = firstWord f := by
  decide +kernel

/-- The two constant arrays hold what the selection needs. -/
theorem lanes : Spec.Lanes (fun f k => (V (F := Ideal) m c main_call0_cst : FVec Ideal S8x64 .f32) (ix2 f k))
    (fun k => (V (F := Ideal) m c main_call0_cst_0 : FVec Ideal S1x64 .f32) (ix2 (0 : Fin 1) k)) where
  listens f k := by
    rw [V_listens]
    show Ideal.ofBits .f32 (lit0 (S8x64.rowMajor (ix2 f k))) = _
    rw [listens_words]
    split
    · exact Consts.one
    · exact Consts.zero
  adds f k h := by
    rw [V_adds]
    show Ideal.ofBits .f32 (lit1 (S1x64.rowMajor (ix2 (0 : Fin 1) k))) = _
    rw [adds_words f k h]
    exact firstWord_eq f
  one := by
    rw [V_adds]
    exact Consts.row52
  number := by
    rw [V_adds]
    exact Consts.zero

end Cert.Prefix

end
-- ==== Proof.Take.lean ====
/- `jnp.take` along the rows of a table, at a table of any number of rows and columns: the reference does it seven times.
   Where the index is a row of the table, the result is that row; the wrap of a negative index and the fill for an index
   out of range do not act. -/
module

public import proofs.«01_k».proof.Proof.Gen.ReferenceIdeal
public import Idealize.ShloMosaic.Lib.Pipeline.ValueKit
public import Idealize.ShloMosaic.Lib.WordArith

@[expose] public section

set_option maxRecDepth 16384

noncomputable section

namespace Cert.Take

open Idealize.ShloMosaic Cert.ReferenceIdeal Cert.ReferenceIdeal.Gen

variable {n e : ℕ}

/-- The result's shape at `e` columns. -/
abbrev Rows (e : ℕ) : Shape := ⟨3, ![4096, 50, e]⟩

/-- The table's shape. -/
abbrev Table (n e : ℕ) : Shape := ⟨2, ![n, e]⟩

/-- The gather's index words: a negative one wrapped by the number of rows, each under a unit axis. -/
def words (rows : BitVec 32) (i : IVec S4096x50 32) : IVec S4096x50x1 32 :=
  broadcastInDim S4096x50x1 ![0, 1] bcast_S4096x50_S4096x50x1_0_1
    (select (cmpi .slt i (broadcastInDim S4096x50 ![] bcast_S_S4096x50 (constantI S_ 32 0#32)))
      (addi i (broadcastInDim S4096x50 ![] bcast_S_S4096x50 (constantI S_ 32 rows))) i)

/-- Whether each index word is a row. -/
def inRange (last : BitVec 32) (w : IVec S4096x50x1 32) : IVec S4096x50 1 :=
  Host.reduce IntOp.andi
    (andi (cmpi .sge w (broadcastInDim S4096x50x1 ![] bcast_S_S4096x50x1 (constantI S_ 32 0#32)))
      (cmpi .sle w (broadcastInDim S4096x50x1 ![0, 1, 2] bcast_S1x1x1_S4096x50x1_0_1_2
        (broadcastInDim S1x1x1 ![2] bcast_S1_S1x1x1_2 (constantI S1 32 last)))))
    (constantI S_ 1 1#1) reducesTo_S4096x50x1_S4096x50_d2 h_S_

/-- The whole take. -/
def take (d : GatherDims (Table n e) S4096x50x1 (Rows e)) (hb : S4096x50.BroadcastsInDim (Rows e) (![0, 1] : Fin 2 → Fin (Rows e).rank))
    (hf : S_.BroadcastsInDim (Rows e) (![] : Fin 0 → Fin (Rows e).rank)) (rows last : BitVec 32)
    (tab : FVec Ideal (Table n e) .f32) (i : IVec S4096x50 32) : FVec Ideal (Rows e) .f32 :=
  select (broadcastInDim (Rows e) ![0, 1] hb (inRange last (words rows i))) (Host.gather d tab (words rows i))
    (broadcastInDim (Rows e) ![] hf (constant S_ .f32 0x7FC00000#32))

theorem words_apply (rows : BitVec 32) (i : IVec S4096x50 32) (a : Fin 4096) (b : Fin 50) (z : Fin 1) (h0 : 0 ≤ (i (ix2 a b)).toInt) :
    words rows i (ix3 a b z) = i (ix2 a b) := by
  pointwise [words]
  have h : IntOp.cmpi .slt (i (ix2 a b)) 0#32 = 0#1 := by
    show BitVec.ofBool ((i (ix2 a b)).slt 0#32) = 0#1
    rw [BitVec.slt_eq_decide, decide_eq_false (by simpa using h0)]
    rfl
  rw [h]
  rfl

theorem inRange_apply (last : BitVec 32) (w : IVec S4096x50x1 32) (a : Fin 4096) (b : Fin 50)
    (h0 : 0 ≤ (w (ix3 a b (0 : Fin 1))).toInt) (h1 : (w (ix3 a b (0 : Fin 1))).toInt ≤ last.toInt) :
    inRange last w (ix2 a b) = 1#1 := by
  pointwise [inRange]
  have e0 : IntOp.cmpi .sge (w (ix3 a b (0 : Fin 1))) 0#32 = 1#1 := by
    show BitVec.ofBool ((0#32).sle (w (ix3 a b (0 : Fin 1)))) = 1#1
    rw [BitVec.sle_eq_decide, decide_eq_true (by simpa using h0)]
    rfl
  have e1 : IntOp.cmpi .sle (w (ix3 a b (0 : Fin 1))) last = 1#1 := by
    show BitVec.ofBool ((w (ix3 a b (0 : Fin 1))).sle last) = 1#1
    rw [BitVec.sle_eq_decide, decide_eq_true h1]
    rfl
  rw [Finset.univ_unique (α := Fin 1), Finset.fold_singleton]
  show IntOp.andi (IntOp.andi (IntOp.cmpi .sge (w (ix3 a b (0 : Fin 1))) 0#32) (IntOp.cmpi .sle (w (ix3 a b (0 : Fin 1))) last)) 1#1 = 1#1
  rw [e0, e1]
  rfl

/-- An entry of the two batch axes. -/
theorem pick (l : List (Fin 3)) (hl : l = [0, 1]) (i : ℕ) (hi : i < l.length) (k : ℕ) (hk : i = k) {v : Fin 3} (hv : [(0 : Fin 3), 1][k]? = some v) :
    l[i] = v := by
  subst hl hk
  rw [List.getElem?_eq_getElem hi] at hv
  exact Option.some.inj hv

theorem one_not_zero : (1 : Fin 2) ∉ [(0 : Fin 2)] := by decide

/-- The gather at an index that is a row of the table: that row. -/
theorem gather_apply (d : GatherDims (Table n e) S4096x50x1 (Rows e)) (hoff : d.offsetDims = [2]) (hbat : d.batchDims = [0, 1]) (hkept : d.siKept = [0, 1])
    (hcoll : d.collapsedSliceDims = [0]) (hob : d.operandBatchingDims = []) (hsim : d.startIndexMap = [0]) (hivd : d.indexVectorDim = 2)
    (tab : FVec Ideal (Table n e) .f32) (w : IVec S4096x50x1 32) (a : Fin 4096) (b : Fin 50) (y : Fin e) (r : Fin n)
    (hr : (w (ix3 a b (0 : Fin 1))).toInt = r.val) :
    Host.gather d tab w (ix3 a b y) = tab (ix2 r y) := by
  have at0 : ∀ q : Fin 3, q = 0 → (ix3 a b y q).val = a.val := by rintro _ rfl; rfl
  have at1 : ∀ q : Fin 3, q = 1 → (ix3 a b y q).val = b.val := by rintro _ rfl; rfl
  have notBatching : ∀ k, k ∉ d.operandBatchingDims := fun k => by rw [hob]; exact List.not_mem_nil
  refine congrArg tab (funext fun k => Fin.ext ?_)
  match k with
  | ⟨0, _⟩ =>
    have collapsed : (0 : Fin 2) ∈ d.collapsedSliceDims := by rw [hcoll]; exact List.mem_singleton.2 rfl
    have mapped : (0 : Fin 2) ∈ d.startIndexMap := by rw [hsim]; exact List.mem_singleton.2 rfl
    have position : d.siIdx (ix3 a b y) ⟨d.startIndexMap.idxOf 0, List.idxOf_lt_length_iff.2 mapped⟩ = ix3 a b (0 : Fin 1) := by
      funext q
      apply Fin.ext
      match q with
      | ⟨0, _⟩ =>
        unfold GatherDims.siIdx
        rw [dif_neg (by rw [hivd]; exact of_decide_eq_true rfl)]
        unfold GatherDims.siCoord
        simp only [Fin.val_cast]
        exact at0 _ (pick _ hbat _ _ 0 (by rw [hkept]; rfl) rfl)
      | ⟨1, _⟩ =>
        unfold GatherDims.siIdx
        rw [dif_neg (by rw [hivd]; exact of_decide_eq_true rfl)]
        unfold GatherDims.siCoord
        simp only [Fin.val_cast]
        exact at1 _ (pick _ hbat _ _ 1 (by rw [hkept]; rfl) rfl)
      | ⟨2, _⟩ =>
        unfold GatherDims.siIdx
        rw [dif_pos (by rw [hivd])]
        show List.idxOf (0 : Fin 2) d.startIndexMap = 0
        rw [hsim]; simp
    show d.start (ix3 a b y) w 0 + d.batchCoord (ix3 a b y) 0 + d.offCoord (ix3 a b y) 0 = r.val
    rw [d.batchCoord_eq_zero _ _ (notBatching 0), d.offCoord_eq_zero _ _ fun h => ((d.mem_sKept 0).1 h).1 collapsed, add_zero, add_zero]
    unfold GatherDims.start
    rw [dif_pos mapped, position, hr, d.slice_collapsed 0 collapsed]
    show min ((r.val : ℤ)).toNat (n - 1) = r.val
    have := r.isLt
    omega
  | ⟨1, _⟩ =>
    have kept : (1 : Fin 2) ∈ d.sKept := (d.mem_sKept 1).2 ⟨by rw [hcoll]; exact one_not_zero, notBatching 1⟩
    have unmapped : (1 : Fin 2) ∉ d.startIndexMap := by rw [hsim]; exact one_not_zero
    show d.start (ix3 a b y) w 1 + d.batchCoord (ix3 a b y) 1 + d.offCoord (ix3 a b y) 1 = y.val
    rw [d.batchCoord_eq_zero _ _ (notBatching 1), add_zero]
    unfold GatherDims.start GatherDims.offCoord
    rw [dif_neg unmapped, dif_pos kept, zero_add]
    have at2 : ∀ q : Fin 3, q ∈ d.offsetDims → (ix3 a b y q).val = y.val := fun q hq => by
      rw [hoff] at hq
      rw [List.mem_singleton.1 hq]
      rfl
    exact at2 _ (List.getElem_mem _)

theorem take_apply (d : GatherDims (Table n e) S4096x50x1 (Rows e)) (hb hf) (hoff : d.offsetDims = [2]) (hbat : d.batchDims = [0, 1]) (hkept : d.siKept = [0, 1])
    (hcoll : d.collapsedSliceDims = [0]) (hob : d.operandBatchingDims = []) (hsim : d.startIndexMap = [0]) (hivd : d.indexVectorDim = 2)
    (rows last : BitVec 32) (tab : FVec Ideal (Table n e) .f32) (i : IVec S4096x50 32) (a : Fin 4096) (b : Fin 50) (y : Fin e) (r : Fin n)
    (hr : (i (ix2 a b)).toInt = r.val) (hl : (r.val : ℤ) ≤ last.toInt) :
    take d hb hf rows last tab i (ix3 a b y) = tab (ix2 r y) := by
  have hw : words rows i (ix3 a b (0 : Fin 1)) = i (ix2 a b) := words_apply rows i a b 0 (by rw [hr]; exact Int.natCast_nonneg _)
  have hm : broadcastInDim (Rows e) ![0, 1] hb (inRange last (words rows i)) (ix3 a b y) = 1#1 := by
    rw [broadcastInDim_apply _ hb _ (ix3 a b y) (ix2 a b) (fun k => by fin_cases k <;> rfl)]
    exact inRange_apply last _ a b (by rw [hw, hr]; exact Int.natCast_nonneg _) (by rw [hw, hr]; exact hl)
  have hg := gather_apply d hoff hbat hkept hcoll hob hsim hivd tab (words rows i) a b y r (by rw [hw, hr])
  unfold take
  generalize words rows i = w at hm hg ⊢
  generalize inRange last w = q at hm ⊢
  rw [ValueIdx.select_apply, hm, hg]
  rfl

end Cert.Take

end
-- ==== Proof.RefEmbed.lean ====
/- The reference's embedded row: seven table rows side by side, then the number's sixteen coordinates. -/
module

public import proofs.«01_k».proof.Proof.Gen.ReferenceIdeal.Read
public import proofs.«01_k».proof.Proof.Take
public import proofs.«01_k».proof.Proof.Spec
public import proofs.«01_k».proof.Proof.Cells

@[expose] public section

set_option maxRecDepth 16384

noncomputable section

namespace Cert.RefEmbed

open Idealize.ShloMosaic Cert.ReferenceIdeal Cert.ReferenceIdeal.Gen

/-- Feature `f` of every token. -/
def feature (x0 : IVec S4096x50x7 32) (f : ℕ) (h : S4096x50x7.Slices ![0, 0, f] S4096x50x1) : IVec S4096x50 32 :=
  shapeCast S4096x50 (extractStridedSlice S4096x50x1 ![0, 0, f] x0 h) shapeCasts_S4096x50x1_S4096x50

theorem feature_apply (x0 : IVec S4096x50x7 32) (f : Fin 7) (h : S4096x50x7.Slices ![0, 0, f.val] S4096x50x1) (a : Fin 4096) (l : Fin 50) :
    feature x0 f.val h (ix2 a l) = x0 (ix3 a l f) := by
  pointwise [feature]

/-- The number's coordinates: a product with its weights, plus its bias. -/
theorem number_apply (x1 : FVec Ideal S4096x50x1 .f32) (x9 : FVec Ideal S1x16 .f32) (x10 : FVec Ideal S16 .f32) (a : Fin 4096) (l : Fin 50) (y : Fin 16) :
    Read.val_main_v24 (F := Ideal) x1 x9 x10 (ix3 a l y) = x1 (ix3 a l (0 : Fin 1)) * x9 (ix2 (0 : Fin 1) y) + x10 (ix1 y) := by
  pointwise [Read.val_main_v24, Read.val_main_v23, Read.val_main_v22, Read.val_main_v21]
  rw [Fin.sum_univ_one]

/-- One feature's looked-up row, where the category is the row `r` of its table. -/
theorem row {n w : ℕ} (d : GatherDims (Take.Table n w) S4096x50x1 (Take.Rows w)) (hb : S4096x50.BroadcastsInDim (Take.Rows w) ![0, 1])
    (hf : S_.BroadcastsInDim (Take.Rows w) ![]) (hoff : d.offsetDims = [2]) (hbat : d.batchDims = [0, 1]) (hkept : d.siKept = [0, 1])
    (hcoll : d.collapsedSliceDims = [0]) (hob : d.operandBatchingDims = []) (hsim : d.startIndexMap = [0]) (hivd : d.indexVectorDim = 2)
    (rows last : BitVec 32) (tab : FVec Ideal (Take.Table n w) .f32) (x0 : IVec S4096x50x7 32) (f : Fin 7)
    (h : S4096x50x7.Slices ![0, 0, f.val] S4096x50x1) (a : Fin 4096) (l : Fin 50) (y : Fin w) (r : ℕ) (hr : (x0 (ix3 a l f)).toInt = r) (hn : r < n)
    (hl : last.toInt = (n : ℤ) - 1) :
    Take.take d hb hf rows last tab (feature x0 f.val h) (ix3 a l y) = Cells.cell tab r y.val :=
  (Take.take_apply d hb hf hoff hbat hkept hcoll hob hsim hivd rows last tab (feature x0 f.val h) a l y ⟨r, hn⟩
    ((congrArg BitVec.toInt (feature_apply x0 f h a l)).trans hr) (by rw [hl]; show (r : ℤ) ≤ _; omega)).trans (Cells.cell_at tab ⟨r, hn⟩ y).symm

/-- The reference's embedded row of a token whose categories are `c`. -/
theorem embedded_apply (x0 : IVec S4096x50x7 32) (x1 : FVec Ideal S4096x50x1 .f32) (x2 : FVec Ideal S5x16 .f32) (x3 : FVec Ideal S3x8 .f32)
    (x4 : FVec Ideal S4x8 .f32) (x5 : FVec Ideal S6x16 .f32) (x6 : FVec Ideal S10x24 .f32) (x7 : FVec Ideal S19x32 .f32) (x8 : FVec Ideal S4x8 .f32)
    (x9 : FVec Ideal S1x16 .f32) (x10 : FVec Ideal S16 .f32) (a : Fin 4096) (l : Fin 50) (c : Fin 7 → ℕ) (hc : ∀ f, c f < Spec.count f)
    (hx : ∀ f, (x0 (ix3 a l f)).toInt = c f) (d : Fin 128) :
    Read.val_main_v25 (F := Ideal) x0 x1 x2 x3 x4 x5 x6 x7 x8 x9 x10 (ix3 a l d)
      = Spec.embedded (Cells.tables x2 x3 x4 x5 x6 x7 x8) c (x1 (ix3 a l (0 : Fin 1))) (Cells.cell x9 0) (Cells.entry x10) d.val := by
  have e0 : ∀ y, Read.val_main_v2 (F := Ideal) x0 x2 (ix3 a l y) = Cells.cell x2 (c 0) y.val := fun y =>
    row gather_S5x16_S4096x50x1_S4096x50x16_2_0_n_n_0_2_116 bcast_S4096x50_S4096x50x16_0_1 bcast_S_S4096x50x16 rfl rfl rfl rfl rfl rfl rfl 5#32 4#32 x2 x0 0
      slices_S4096x50x7_S4096x50x1_0_0_0 a l y (c 0) (hx 0) (hc 0) (by decide)
  have e1 : ∀ y, Read.val_main_v5 (F := Ideal) x0 x3 (ix3 a l y) = Cells.cell x3 (c 1) y.val := fun y =>
    row gather_S3x8_S4096x50x1_S4096x50x8_2_0_n_n_0_2_18 bcast_S4096x50_S4096x50x8_0_1 bcast_S_S4096x50x8 rfl rfl rfl rfl rfl rfl rfl 3#32 2#32 x3 x0 1
      slices_S4096x50x7_S4096x50x1_0_0_1 a l y (c 1) (hx 1) (hc 1) (by decide)
  have e2 : ∀ y, Read.val_main_v8 (F := Ideal) x0 x4 (ix3 a l y) = Cells.cell x4 (c 2) y.val := fun y =>
    row gather_S4x8_S4096x50x1_S4096x50x8_2_0_n_n_0_2_18 bcast_S4096x50_S4096x50x8_0_1 bcast_S_S4096x50x8 rfl rfl rfl rfl rfl rfl rfl 4#32 3#32 x4 x0 2
      slices_S4096x50x7_S4096x50x1_0_0_2 a l y (c 2) (hx 2) (hc 2) (by decide)
  have e3 : ∀ y, Read.val_main_v11 (F := Ideal) x0 x5 (ix3 a l y) = Cells.cell x5 (c 3) y.val := fun y =>
    row gather_S6x16_S4096x50x1_S4096x50x16_2_0_n_n_0_2_116 bcast_S4096x50_S4096x50x16_0_1 bcast_S_S4096x50x16 rfl rfl rfl rfl rfl rfl rfl 6#32 5#32 x5 x0 3
      slices_S4096x50x7_S4096x50x1_0_0_3 a l y (c 3) (hx 3) (hc 3) (by decide)
  have e4 : ∀ y, Read.val_main_v14 (F := Ideal) x0 x6 (ix3 a l y) = Cells.cell x6 (c 4) y.val := fun y =>
    row gather_S10x24_S4096x50x1_S4096x50x24_2_0_n_n_0_2_124 bcast_S4096x50_S4096x50x24_0_1 bcast_S_S4096x50x24 rfl rfl rfl rfl rfl rfl rfl 10#32 9#32 x6 x0 4
      slices_S4096x50x7_S4096x50x1_0_0_4 a l y (c 4) (hx 4) (hc 4) (by decide)
  have e5 : ∀ y, Read.val_main_v17 (F := Ideal) x0 x7 (ix3 a l y) = Cells.cell x7 (c 5) y.val := fun y =>
    row gather_S19x32_S4096x50x1_S4096x50x32_2_0_n_n_0_2_132 bcast_S4096x50_S4096x50x32_0_1 bcast_S_S4096x50x32 rfl rfl rfl rfl rfl rfl rfl 19#32 18#32 x7 x0 5
      slices_S4096x50x7_S4096x50x1_0_0_5 a l y (c 5) (hx 5) (hc 5) (by decide)
  have e6 : ∀ y, Read.val_main_v20 (F := Ideal) x0 x8 (ix3 a l y) = Cells.cell x8 (c 6) y.val := fun y =>
    row gather_S4x8_S4096x50x1_S4096x50x8_2_0_n_n_0_2_18 bcast_S4096x50_S4096x50x8_0_1 bcast_S_S4096x50x8 rfl rfl rfl rfl rfl rfl rfl 4#32 3#32 x8 x0 6
      slices_S4096x50x7_S4096x50x1_0_0_6 a l y (c 6) (hx 6) (hc 6) (by decide)
  have e7 : ∀ y : Fin 16, Read.val_main_v24 (F := Ideal) x1 x9 x10 (ix3 a l y)
      = x1 (ix3 a l (0 : Fin 1)) * Cells.cell x9 0 y.val + Cells.entry x10 y.val := fun y => by
    rw [number_apply, Cells.entry_at]
    exact congrArg (fun z => _ * z + _) (Cells.cell_at x9 (0 : Fin 1) y).symm
  unfold Read.val_main_v25 Spec.embedded
  generalize Read.val_main_v2 (F := Ideal) x0 x2 = t0 at e0 ⊢
  generalize Read.val_main_v5 (F := Ideal) x0 x3 = t1 at e1 ⊢
  generalize Read.val_main_v8 (F := Ideal) x0 x4 = t2 at e2 ⊢
  generalize Read.val_main_v11 (F := Ideal) x0 x5 = t3 at e3 ⊢
  generalize Read.val_main_v14 (F := Ideal) x0 x6 = t4 at e4 ⊢
  generalize Read.val_main_v17 (F := Ideal) x0 x7 = t5 at e5 ⊢
  generalize Read.val_main_v20 (F := Ideal) x0 x8 = t6 at e6 ⊢
  generalize Read.val_main_v24 (F := Ideal) x1 x9 x10 = t7 at e7 ⊢
  pointwise
  by_cases h0 : d.val < 16
  · rw [dif_pos (by omega), if_pos h0, e0]
    rfl
  rw [dif_neg (by omega), if_neg h0]
  by_cases h1 : d.val < 24
  · rw [dif_pos (by omega), if_pos h1, e1]
    rfl
  rw [dif_neg (by omega), if_neg h1]
  by_cases h2 : d.val < 32
  · rw [dif_pos (by omega), if_pos h2, e2]
    simp only [Nat.sub_sub, Nat.reduceAdd]
    rfl
  rw [dif_neg (by omega), if_neg h2]
  by_cases h3 : d.val < 48
  · rw [dif_pos (by omega), if_pos h3, e3]
    simp only [Nat.sub_sub, Nat.reduceAdd]
    rfl
  rw [dif_neg (by omega), if_neg h3]
  by_cases h4 : d.val < 72
  · rw [dif_pos (by omega), if_pos h4, e4]
    simp only [Nat.sub_sub, Nat.reduceAdd]
    rfl
  rw [dif_neg (by omega), if_neg h4]
  by_cases h5 : d.val < 104
  · rw [dif_pos (by omega), if_pos h5, e5]
    simp only [Nat.sub_sub, Nat.reduceAdd]
    rfl
  rw [dif_neg (by omega), if_neg h5]
  by_cases h6 : d.val < 112
  · rw [dif_pos (by omega), if_pos h6, e6]
    simp only [Nat.sub_sub, Nat.reduceAdd]
    rfl
  rw [dif_neg (by omega), if_neg h6]
  rw [e7]
  simp only [Nat.sub_sub, Nat.reduceAdd]

end Cert.RefEmbed

end
-- ==== Proof.RefLayers.lean ====
/- The reference's layers, each as a function of the array before it: the projection, the exact GELU, the normalisation.
   At an index each is the scalar formula of its row. -/
module

public import proofs.«01_k».proof.Proof.Gen.ReferenceIdeal.Read
public import Idealize.ShloMosaic.Lib.Pipeline.ValueKit
public import proofs.«01_k».proof.Proof.Consts

@[expose] public section

set_option maxRecDepth 16384

noncomputable section

namespace Cert.RefLayers

open Idealize.ShloMosaic Cert.ReferenceIdeal Cert.ReferenceIdeal.Gen

/-- The projection and its bias. -/
def hidden (e : FVec Ideal S4096x50x128 .f32) (w : FVec Ideal S128x256 .f32) (p : FVec Ideal S256 .f32) : FVec Ideal S4096x50x256 .f32 :=
  addf (Host.dotGeneral dot_S4096x50x128_S128x256_S4096x50x256_2_0_01_1_n_n none e w)
    (broadcastInDim S4096x50x256 ![0, 1, 2] bcast_S1x1x256_S4096x50x256_0_1_2 (broadcastInDim S1x1x256 ![2] bcast_S256_S1x1x256_2 p))

/-- The exact GELU. -/
def gelu (h : FVec Ideal S4096x50x256 .f32) : FVec Ideal S4096x50x256 .f32 :=
  mulf (mulf (broadcastInDim S4096x50x256 ![] bcast_S_S4096x50x256 (constant S_ .f32 0x3F000000#32)) h)
    (Host.erfc (mulf (Host.negf h) (broadcastInDim S4096x50x256 ![] bcast_S_S4096x50x256 (constant S_ .f32 0x3F3504F3#32))))

/-- The sum of each row, under a unit axis. -/
def rowSum (y : FVec Ideal S4096x50x256 .f32) : FVec Ideal S4096x50x1 .f32 :=
  broadcastInDim S4096x50x1 ![0, 1] bcast_S4096x50_S4096x50x1_0_1
    (Host.reduceAdd y (constant S_ .f32 0x00000000#32) reducesTo_S4096x50x256_S4096x50_d2 h_S_)

/-- Each row less its mean. -/
def centred (y : FVec Ideal S4096x50x256 .f32) : FVec Ideal S4096x50x256 .f32 :=
  subf y (broadcastInDim S4096x50x256 ![0, 1, 2] bcast_S4096x50x1_S4096x50x256_0_1_2
    (Host.divf (rowSum y) (broadcastInDim S4096x50x1 ![] bcast_S_S4096x50x1 (constant S_ .f32 0x43800000#32))))

/-- What the variance divides by: the number of lanes, less no degree of freedom. -/
def divisor : FVec Ideal S_ .f32 := subf (constant S_ .f32 0x43800000#32) (sitofp .f32 (constantI S_ 32 0#32))

/-- The variance of each row, filled where the divisor is not positive. -/
def variance (y : FVec Ideal S4096x50x256 .f32) : FVec Ideal S4096x50x1 .f32 :=
  select (broadcastInDim S4096x50x1 ![] bcast_S_S4096x50x1 (cmpf .ogt divisor (constant S_ .f32 0x00000000#32)))
    (Host.divf (rowSum (mulf (centred y) (centred y))) (broadcastInDim S4096x50x1 ![] bcast_S_S4096x50x1 divisor))
    (broadcastInDim S4096x50x1 ![] bcast_S_S4096x50x1 (id (constant S_ .f32 0x7FC00000#32)))

/-- The normalisation, scaled and shifted. -/
def normed (y : FVec Ideal S4096x50x256 .f32) (g b : FVec Ideal S256 .f32) : FVec Ideal S4096x50x256 .f32 :=
  addf (mulf (Host.divf (centred y) (broadcastInDim S4096x50x256 ![0, 1, 2] bcast_S4096x50x1_S4096x50x256_0_1_2
      (Host.sqrt (addf (variance y) (broadcastInDim S4096x50x1 ![] bcast_S_S4096x50x1 (constant S_ .f32 0x3727C5AC#32))))))
    (broadcastInDim S4096x50x256 ![0, 1, 2] bcast_S1x1x256_S4096x50x256_0_1_2 (broadcastInDim S1x1x256 ![2] bcast_S256_S1x1x256_2 g)))
    (broadcastInDim S4096x50x256 ![0, 1, 2] bcast_S1x1x256_S4096x50x256_0_1_2 (broadcastInDim S1x1x256 ![2] bcast_S256_S1x1x256_2 b))

/-- The reference's result, over its embedded rows. -/
theorem result_eq (x0 x1 x2 x3 x4 x5 x6 x7 x8 x9 x10 x11 x12 x13 x14) :
    Read.val_main_v54 (F := Ideal) x0 x1 x2 x3 x4 x5 x6 x7 x8 x9 x10 x11 x12 x13 x14
      = normed (gelu (hidden (Read.val_main_v25 (F := Ideal) x0 x1 x2 x3 x4 x5 x6 x7 x8 x9 x10) x11 x12)) x13 x14 := rfl

theorem hidden_apply (e : FVec Ideal S4096x50x128 .f32) (w : FVec Ideal S128x256 .f32) (p : FVec Ideal S256 .f32) (a : Fin 4096) (l : Fin 50)
    (n : Fin 256) : hidden e w p (ix3 a l n) = ∑ d, e (ix3 a l d) * w (ix2 d n) + p (ix1 n) := by
  pointwise [hidden]

theorem gelu_apply (h : FVec Ideal S4096x50x256 .f32) (a : Fin 4096) (l : Fin 50) (n : Fin 256) :
    gelu h (ix3 a l n) = (((1 / 2 : ℝ) : EReal) * h (ix3 a l n)) * Ideal.erfc (-h (ix3 a l n) * Ideal.ofBits .f32 0x3F3504F3#32) := by
  pointwise [gelu]
  rw [← Consts.half]

theorem rowSum_apply (y : FVec Ideal S4096x50x256 .f32) (a : Fin 4096) (l : Fin 50) (z : Fin 1) :
    rowSum y (ix3 a l z) = ∑ k, y (ix3 a l k) := by
  pointwise [rowSum]

theorem centred_apply (y : FVec Ideal S4096x50x256 .f32) (a : Fin 4096) (l : Fin 50) (n : Fin 256) :
    centred y (ix3 a l n) = y (ix3 a l n) - Ideal.div (∑ k, y (ix3 a l k)) ((256 : ℝ) : EReal) := by
  have h := rowSum_apply y a l 0
  unfold centred
  generalize rowSum y = s at h ⊢
  pointwise
  rw [h, ← Consts.lanes]

theorem divisor_apply (i : S_.Idx) : divisor i = ((256 : ℝ) : EReal) := by
  show Ideal.ofBits .f32 0x43800000#32 - (((0#32).toInt : ℝ) : EReal) = _
  rw [Consts.lanes]
  norm_num

theorem variance_apply (y : FVec Ideal S4096x50x256 .f32) (a : Fin 4096) (l : Fin 50) (z : Fin 1) :
    variance y (ix3 a l z) = Ideal.div (∑ k, centred y (ix3 a l k) * centred y (ix3 a l k)) ((256 : ℝ) : EReal) := by
  have h := rowSum_apply (mulf (centred y) (centred y)) a l z
  have hd := divisor_apply
  unfold variance
  generalize rowSum (mulf (centred y) (centred y)) = s at h ⊢
  generalize divisor = q at hd ⊢
  pointwise
  rw [hd, if_pos (by exact_mod_cast (by norm_num : (0 : ℝ) < 256)), h]
  rfl

theorem normed_apply (y : FVec Ideal S4096x50x256 .f32) (g b : FVec Ideal S256 .f32) (a : Fin 4096) (l : Fin 50) (n : Fin 256) :
    normed y g b (ix3 a l n)
      = Ideal.div (centred y (ix3 a l n)) (Ideal.sqrt (Ideal.div (∑ k, centred y (ix3 a l k) * centred y (ix3 a l k)) ((256 : ℝ) : EReal)
          + Ideal.ofBits .f32 0x3727C5AC#32)) * g (ix1 n) + b (ix1 n) := by
  have h := variance_apply y a l 0
  unfold normed
  generalize variance y = v at h ⊢
  generalize centred y = d at h ⊢
  pointwise
  rw [h]

end Cert.RefLayers

end
-- ==== Proof.Pre.lean ====
/- What the precondition says, entry by entry: every categorical code is a row of its table, and the number, its weight and the
   projection's last sixteen rows are finite. -/
module

public import proofs.«01_k».proof.Pre_admissible
public import proofs.«01_k».proof.Proof.Gen.Pre_admissible
public import proofs.«01_k».proof.Proof.Consts
public import proofs.«01_k».proof.Proof.Spec
public import Idealize.ShloMosaic.Lib.Pointwise

@[expose] public section

noncomputable section

namespace Cert.Pre

open Idealize.ShloMosaic Cert.Pre_admissible Cert.Pre_admissible.Gen

theorem ofBool_one (b : Bool) (h : BitVec.ofBool b = 1#1) : b = true := by
  revert h
  cases b <;> decide

theorem not_negative (w : BitVec 32) (h : IntOp.cmpi .sge w 0#32 = 1#1) : 0 ≤ w.toInt := by
  have h' := BitVec.sle_iff_toInt_le.1 (ofBool_one _ h)
  simpa using h'

theorem less (w n : BitVec 32) (h : IntOp.cmpi .slt w n = 1#1) : w.toInt < n.toInt :=
  BitVec.slt_iff_toInt_lt.1 (ofBool_one _ h)

/-- A word between two comparisons is a natural number below the bound. -/
theorem code (w n : BitVec 32) (k : ℕ) (hn : n.toInt = k) (h0 : 0 ≤ w.toInt) (h : w.toInt < n.toInt) : w.toInt.toNat < k ∧ w.toInt = (w.toInt.toNat : ℤ) := by
  omega

theorem and_one (a b : BitVec 1) (h : a &&& b = 1#1) : a = 1#1 ∧ b = 1#1 := by
  revert a b
  decide

/-- A value strictly between the infinities is a real. -/
theorem real_of (x : EReal) (h : IntOp.andi (Ideal.cmp .ogt x (Ideal.ofBits .f32 0xFF800000#32)) (Ideal.cmp .olt x (Ideal.ofBits .f32 0x7F800000#32)) = 1#1) :
    ∃ r : ℝ, x = (r : EReal) := by
  obtain ⟨h1, h2⟩ := and_one _ _ h
  rw [Consts.minusInf] at h1
  rw [Consts.plusInf] at h2
  have g1 : ⊥ < x := of_decide_eq_true (ofBool_one _ h1)
  have g2 : x < ⊤ := of_decide_eq_true (ofBool_one _ h2)
  exact ⟨x.toReal, (EReal.coe_toReal g2.ne g1.ne').symm⟩

/-- One column of the codes compared with a bound. -/
theorem below (x0 : IVec S4096x50x7 32) (f : Fin 7) (hs : S4096x50x7.Slices ![0, 0, f.val] S4096x50x1) (n : BitVec 32)
    (hb : S_.BroadcastsInDim S4096x50x1 (![] : Fin 0 → Fin S4096x50x1.rank))
    (h : cmpi .slt (extractStridedSlice S4096x50x1 ![0, 0, f.val] x0 hs) (broadcastInDim S4096x50x1 ![] hb (constantI S_ 32 n)) = fun _ => 1#1)
    (a : Fin 4096) (l : Fin 50) : (x0 (ix3 a l f)).toInt < n.toInt := by
  have e := congrFun h (ix3 a l (0 : Fin 1))
  have g : extractStridedSlice S4096x50x1 ![0, 0, f.val] x0 hs (ix3 a l (0 : Fin 1)) = x0 (ix3 a l f) := by
    pointwise
  rw [← g]
  exact less _ _ e

/-- What the precondition gives. -/
structure Admissible (x0 : IVec S4096x50x7 32) (x1 : FVec Ideal S4096x50x1 .f32) (x9 : FVec Ideal S1x16 .f32) (x11 : FVec Ideal S128x256 .f32) : Prop where
  codes : ∀ a l, ∃ c : Fin 7 → ℕ, (∀ f, c f < Spec.count f) ∧ ∀ f, (x0 (ix3 a l f)).toInt = (c f : ℤ)
  number : ∀ a l, ∃ r : ℝ, x1 (ix3 a l (0 : Fin 1)) = (r : EReal)
  weight : ∀ y : Fin 16, ∃ r : ℝ, x9 (ix2 (0 : Fin 1) y) = (r : EReal)
  projection : ∀ (d : Fin 128) (n : Fin 256), 112 ≤ d.val → ∃ r : ℝ, x11 (ix2 d n) = (r : EReal)

theorem admissible (x0 : IVec S4096x50x7 32) (x1 : FVec Ideal S4096x50x1 .f32) (x2 : FVec Ideal S5x16 .f32) (x3 : FVec Ideal S3x8 .f32)
    (x4 : FVec Ideal S4x8 .f32) (x5 : FVec Ideal S6x16 .f32) (x6 : FVec Ideal S10x24 .f32) (x7 : FVec Ideal S19x32 .f32) (x8 : FVec Ideal S4x8 .f32)
    (x9 : FVec Ideal S1x16 .f32) (x10 : FVec Ideal S16 .f32) (x11 : FVec Ideal S128x256 .f32) (x12 x13 x14 : FVec Ideal S256 .f32)
    (r : _) (hr : fn (F := Ideal) x0 x1 x2 x3 x4 x5 x6 x7 x8 x9 x10 x11 x12 x13 x14 = r)
    (h : r.1 = (fun _ => 1#1) ∧ r.2.1 = (fun _ => 1#1) ∧ r.2.2.1 = (fun _ => 1#1) ∧ r.2.2.2.1 = (fun _ => 1#1) ∧ r.2.2.2.2.1 = (fun _ => 1#1)
      ∧ r.2.2.2.2.2.1 = (fun _ => 1#1) ∧ r.2.2.2.2.2.2.1 = (fun _ => 1#1) ∧ r.2.2.2.2.2.2.2.1 = (fun _ => 1#1)
      ∧ r.2.2.2.2.2.2.2.2.1 = (fun _ => 1#1) ∧ r.2.2.2.2.2.2.2.2.2.1 = (fun _ => 1#1) ∧ r.2.2.2.2.2.2.2.2.2.2 = (fun _ => 1#1)) :
    Admissible x0 x1 x9 x11 := by
  subst hr
  obtain ⟨h0, b0, b1, b2, b3, b4, b5, b6, hx, hw, hp⟩ := h
  have zero : ∀ a l f, 0 ≤ (x0 (ix3 a l f)).toInt := fun a l f => not_negative _ (congrFun h0 (ix3 a l f))
  refine ⟨fun a l => ⟨fun f => (x0 (ix3 a l f)).toInt.toNat, ?_, fun f => ?_⟩, fun a l => ?_, fun y => ?_, fun d n hd => ?_⟩
  · intro f
    fin_cases f
    · exact (code _ 5#32 5 rfl (zero a l 0) (below x0 0 _ 5#32 _ b0 a l)).1
    · exact (code _ 3#32 3 rfl (zero a l 1) (below x0 1 _ 3#32 _ b1 a l)).1
    · exact (code _ 4#32 4 rfl (zero a l 2) (below x0 2 _ 4#32 _ b2 a l)).1
    · exact (code _ 6#32 6 rfl (zero a l 3) (below x0 3 _ 6#32 _ b3 a l)).1
    · exact (code _ 10#32 10 rfl (zero a l 4) (below x0 4 _ 10#32 _ b4 a l)).1
    · exact (code _ 19#32 19 rfl (zero a l 5) (below x0 5 _ 19#32 _ b5 a l)).1
    · exact (code _ 4#32 4 rfl (zero a l 6) (below x0 6 _ 4#32 _ b6 a l)).1
  · exact (Int.toNat_of_nonneg (zero a l f)).symm
  · exact real_of _ (congrFun hx (ix3 a l (0 : Fin 1)))
  · exact real_of _ (congrFun hw (ix2 (0 : Fin 1) y))
  · have e := congrFun hp (ix2 (⟨d.val - 112, by omega⟩ : Fin 16) n)
    have g : extractStridedSlice S16x256 ![112, 0] x11 slices_S128x256_S16x256_112_0 (ix2 (⟨d.val - 112, by omega⟩ : Fin 16) n) = x11 (ix2 d n) := by
      pointwise
      refine congrArg x11 (congrArg (ix2 · n) (Fin.ext ?_))
      show 112 + (d.val - 112) = d.val
      omega
    rw [← g]
    exact real_of _ e

end Cert.Pre

end
-- ==== Proof.Equation.lean ====
/- The equation: what the kernel computes for one lane of one token, and what the reference does, are the same extended real. -/
module

public import proofs.«01_k».proof.Proof.Array
public import proofs.«01_k».proof.Proof.Prefix
public import proofs.«01_k».proof.Proof.RefEmbed
public import proofs.«01_k».proof.Proof.RefLayers
public import proofs.«01_k».proof.Proof.Pre

@[expose] public section

noncomputable section

namespace Cert.Equation

open Idealize.ShloMosaic Cert.KernelIdeal Cert.KernelIdeal.Gen

/-- The reference's layers, of one row of its hidden layer. -/
theorem reference_row (h : FVec Ideal S4096x50x256 .f32) (g b : FVec Ideal S256 .f32) (a : Fin 4096) (l : Fin 50) (n : Fin 256) :
    RefLayers.normed (RefLayers.gelu h) g b (ix3 a l n)
      = Row.bySqrt (fun j => h (ix3 a l j)) (fun j => g (ix1 j)) (fun j => b (ix1 j)) n := by
  rw [RefLayers.normed_apply]
  simp only [RefLayers.centred_apply, RefLayers.gelu_apply]
  rfl

/-- The hidden layer: selecting rows of the projected stack is projecting the embedded row. -/
theorem hidden_row (x0 : IVec S4096x50x7 32) (x1 : FVec Ideal S4096x50x1 .f32) (x2 : FVec Ideal S5x16 .f32) (x3 : FVec Ideal S3x8 .f32)
    (x4 : FVec Ideal S4x8 .f32) (x5 : FVec Ideal S6x16 .f32) (x6 : FVec Ideal S10x24 .f32) (x7 : FVec Ideal S19x32 .f32) (x8 : FVec Ideal S4x8 .f32)
    (x9 : FVec Ideal S1x16 .f32) (x10 : FVec Ideal S16 .f32) (x11 : FVec Ideal S128x256 .f32) (x12 : FVec Ideal S256 .f32)
    (s : FVec Ideal S8x64 .f32) (base : FVec Ideal S1x64 .f32)
    (hl : Spec.Lanes (fun f k => s (ix2 f k)) (fun k => base (ix2 (0 : Fin 1) k))) (hA : Pre.Admissible x0 x1 x9 x11)
    (a : Fin 4096) (l : Fin 50) (n : Fin 256) :
    Blocks.hiddenRow (fun f => Prefix.inputs x0 x1 (ix2 a (⟨8 * l.val + f.val, by omega⟩ : Fin 400))) (fun f k => s (ix2 f k))
        (fun k => base (ix2 (0 : Fin 1) k))
        (fun k j => k0_pay2 (F := Ideal) (Prefix.table x2 x3 x4 x5 x6 x7 x8 x9 x10) x11 (shapeCast S1x256 x12 shapeCasts_S256_S1x256) (ix2 k j)) n
      = RefLayers.hidden (ReferenceIdeal.Read.val_main_v25 (F := Ideal) x0 x1 x2 x3 x4 x5 x6 x7 x8 x9 x10) x11 x12 (ix3 a l n) := by
  obtain ⟨c, hc, hx⟩ := hA.codes a l
  obtain ⟨u, hu⟩ := hA.number a l
  rw [RefLayers.hidden_apply]
  unfold Blocks.hiddenRow
  simp only [Blocks.fill_apply, Prefix.table_apply, Prefix.row_apply]
  refine (Spec.hidden_eq (Cells.tables x2 x3 x4 x5 x6 x7 x8) (Cells.cell x9 0) (Cells.entry x10) hl c hc (fun f => ?_) u ?_
    (fun d => x11 (ix2 d n)) (x12 (ix1 n)) (fun y hy => ?_) (fun d hd => hA.projection d n hd)).trans ?_
  · rw [Prefix.inputs_apply x0 x1 a l f.castSucc _ rfl, dif_pos (show f.castSucc.val < 7 from f.isLt)]
    have e := hx f
    have e' : (x0 (ix3 a l (⟨f.castSucc.val, f.isLt⟩ : Fin 7))).toInt = (c f : ℤ) := e
    rw [e']
    norm_num
  · rw [Prefix.inputs_apply x0 x1 a l 7 _ rfl, dif_neg (by decide)]
    exact hu
  · obtain ⟨r, hr⟩ := hA.weight ⟨y, hy⟩
    exact ⟨r, (Cells.cell_at x9 (0 : Fin 1) (⟨y, hy⟩ : Fin 16)).trans hr⟩
  · refine congrArg (· + x12 (ix1 n)) (Finset.sum_congr rfl fun d _ => congrArg (· * x11 (ix2 d n)) ?_)
    rw [RefEmbed.embedded_apply x0 x1 x2 x3 x4 x5 x6 x7 x8 x9 x10 a l c hc hx d, hu]

/-- One lane of one token. -/
theorem lane_eq (x0 : IVec S4096x50x7 32) (x1 : FVec Ideal S4096x50x1 .f32) (x2 : FVec Ideal S5x16 .f32) (x3 : FVec Ideal S3x8 .f32)
    (x4 : FVec Ideal S4x8 .f32) (x5 : FVec Ideal S6x16 .f32) (x6 : FVec Ideal S10x24 .f32) (x7 : FVec Ideal S19x32 .f32) (x8 : FVec Ideal S4x8 .f32)
    (x9 : FVec Ideal S1x16 .f32) (x10 : FVec Ideal S16 .f32) (x11 : FVec Ideal S128x256 .f32) (x12 x13 x14 : FVec Ideal S256 .f32)
    (s : FVec Ideal S8x64 .f32) (base : FVec Ideal S1x64 .f32)
    (hl : Spec.Lanes (fun f k => s (ix2 f k)) (fun k => base (ix2 (0 : Fin 1) k))) (hA : Pre.Admissible x0 x1 x9 x11)
    (a : Fin 4096) (l : Fin 50) (n : Fin 256) :
    Blocks.lane (Prefix.inputs x0 x1) s base
        (k0_pay2 (F := Ideal) (Prefix.table x2 x3 x4 x5 x6 x7 x8 x9 x10) x11 (shapeCast S1x256 x12 shapeCasts_S256_S1x256))
        (shapeCast S1x256 x13 shapeCasts_S256_S1x256) (shapeCast S1x256 x14 shapeCasts_S256_S1x256) l a n
      = ReferenceIdeal.Read.val_main_v54 (F := Ideal) x0 x1 x2 x3 x4 x5 x6 x7 x8 x9 x10 x11 x12 x13 x14 (ix3 a l n) := by
  rw [RefLayers.result_eq, reference_row, ← Row.spellings]
  unfold Blocks.lane
  simp only [Prefix.row_apply]
  refine congrArg (fun h => Row.byRsqrt h (fun j => x13 (ix1 j)) (fun j => x14 (ix1 j)) n) (funext fun j => ?_)
  exact hidden_row x0 x1 x2 x3 x4 x5 x6 x7 x8 x9 x10 x11 x12 s base hl hA a l j

end Cert.Equation

end
-- ==== Proof.Result.lean ====
/- The kernel's result after the run, under the precondition: the reference's last value, of the kernel's own arguments. -/
module

public import proofs.«01_k».proof.Proof.Equation
public import Idealize.ShloMosaic.Lib.StableHlo.RunClose

@[expose] public section

noncomputable section

namespace Cert.Result

open Idealize.ShloMosaic Idealize.ShloMosaic.TcCoe Idealize.SL.Sem Cert.KernelIdeal Cert.KernelIdeal.Gen

variable (m : (ℓ : Loc nD τ sig) → Buf (Elt Ideal) ℓ) (g : Dev nD → PrngReg) (c : Dev nD)

/-- What the reference computes from the kernel's arguments. -/
def target : FVec Ideal S4096x50x256 .f32 :=
  ReferenceIdeal.Read.val_main_v54 (F := Ideal) (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5)) (m (c, Proc.tc.devRef main_arg6))
    (m (c, Proc.tc.devRef main_arg7)) (m (c, Proc.tc.devRef main_arg8)) (m (c, Proc.tc.devRef main_arg9)) (m (c, Proc.tc.devRef main_arg10))
    (m (c, Proc.tc.devRef main_arg11)) (m (c, Proc.tc.devRef main_arg12)) (m (c, Proc.tc.devRef main_arg13)) (m (c, Proc.tc.devRef main_arg14))

/-- What the precondition says of the kernel's arguments. -/
abbrev Admissible : Prop :=
  Pre.Admissible (m (c, Proc.tc.devRef main_arg0)) (m (c, Proc.tc.devRef main_arg1)) (m (c, Proc.tc.devRef main_arg9)) (m (c, Proc.tc.devRef main_arg11))

/-- The host's one operation after the launch: the positions' axis and the rows' exchanged. -/
theorem tail : (Pipeline.afterTail₀ cfgs (dats (F := Ideal) m) 0 (V0 m) [hostOps1] c main_v0 : FVec Ideal S4096x50x256 .f32)
    = transpose S4096x50x256 [1, 0, 2] ((dats (F := Ideal) m 0 c).arrAt 8 cfg0.N : FVec Ideal S50x4096x256 .f32) transposes_S50x4096x256_S4096x50x256_1_0_2 := by
  have e := Pipeline.withArrays_arr (τ := τ) (Val := Elt Ideal) spec0 (by decide) c (V0 m c) (fun w => (dats (F := Ideal) m 0 c).arrAt w cfg0.N) 8
  unfold Pipeline.afterTail₀
  refine Eq.trans ?_ (congrArg (fun x : FVec Ideal S50x4096x256 .f32 => transpose S4096x50x256 [1, 0, 2] x transposes_S50x4096x256_S4096x50x256_1_0_2) e)
  simp only [hostOps1, List.flatten_cons, List.flatten_nil, List.append_nil, List.cons_append, List.nil_append]
  after_results
  rfl

/-- The tail's array is the reference's last value, lane by lane. -/
theorem value (hA : Admissible m c) :
    (Pipeline.afterTail₀ cfgs (dats (F := Ideal) m) 0 (V0 m) [hostOps1] c main_v0 : FVec Ideal S4096x50x256 .f32) = target m c := by
  rw [tail, Blocks.final m c]
  funext i
  have ei : i = ix3 (i 0 : Fin 4096) (i 1 : Fin 50) (i 2 : Fin 256) := by
    funext a
    match a with
    | ⟨0, _⟩ => rfl
    | ⟨1, _⟩ => rfl
    | ⟨2, _⟩ => rfl
  have et : transpose S4096x50x256 [1, 0, 2] (Blocks.lanesOf (V m c main_call0_v2) (V m c main_call0_cst) (V m c main_call0_cst_0) (Blocks.fill m c)
      (V m c main_call0_v15) (V m c main_call0_v16)) transposes_S50x4096x256_S4096x50x256_1_0_2 (ix3 (i 0 : Fin 4096) (i 1 : Fin 50) (i 2 : Fin 256))
      = Blocks.lane (V m c main_call0_v2) (V m c main_call0_cst) (V m c main_call0_cst_0) (Blocks.fill m c)
      (V m c main_call0_v15) (V m c main_call0_v16) (i 1) (i 0) (i 2) := by
    pointwise [Blocks.lanesOf]
  rw [ei]
  refine et.trans ?_
  have key := Equation.lane_eq (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5)) (m (c, Proc.tc.devRef main_arg6))
    (m (c, Proc.tc.devRef main_arg7)) (m (c, Proc.tc.devRef main_arg8)) (m (c, Proc.tc.devRef main_arg9)) (m (c, Proc.tc.devRef main_arg10))
    (m (c, Proc.tc.devRef main_arg11)) (m (c, Proc.tc.devRef main_arg12)) (m (c, Proc.tc.devRef main_arg13)) (m (c, Proc.tc.devRef main_arg14))
    _ _ (Prefix.lanes m c) hA (i 0) (i 1) (i 2)
  rw [← Prefix.V_table m c, ← Prefix.V_inputs m c, ← Prefix.V_bias m c, ← Prefix.V_scale m c, ← Prefix.V_shift m c] at key
  unfold Blocks.fill
  rw [V_main_arg11 m c]
  exact key

/-- The run. -/
theorem run (hA : ∀ c, Admissible m c) : θ_run defs (onTc (τ := τ) (main (F := Ideal))) ⟨m, fun _ => 0, g⟩ fun r => ∀ c : Dev nD,
    r.2.mem ((c.tc : Thread nD τ).loc main_v0) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono
    (fun _ h c => ⟨((h.2 c).2 main_v0 (Pipeline.mem_restRefs_of main_v0 (by decide) (by decide))).trans (value m c (hA c)), h.1 c⟩)
    (θ_run_and (unchanged m g) (run_main m g))

end Cert.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_admissible
public import proofs.«01_k».proof.Proof.Gen.ReferenceIdeal.Run
public import proofs.«01_k».proof.Proof.Gen.ReferenceIdeal.Read
public import proofs.«01_k».proof.Proof.Result
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference leaves its arguments as they were, and no counter behind. -/
theorem quiescent_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Under the precondition the two results are one extended real in every lane. -/
theorem algebraic : Cert.algebraic_KernelIdeal_ReferenceIdeal_pre_admissible := by
  intro m g m' g' hpre hagree
  have hA : ∀ c, Result.Admissible m c := fun c => Pre.admissible _ _ _ _ _ _ _ _ _ _ _ _ _ _ _ _ rfl (hpre c)
  refine ⟨Result.target m, Result.run m g hA, ?_⟩
  refine (θ_run Cert.ReferenceIdeal.defs _ _).mono (fun r h c => ⟨?_, (h c).2⟩) (Cert.ReferenceIdeal.Value.run (F := Ideal) m' g')
  obtain ⟨a0, a1, a2, a3, a4, a5, a6, a7, a8, a9, a10, a11, a12, a13, a14⟩ := hagree c
  refine (h c).1.trans ((Cert.ReferenceIdeal.Read.val_main_v54_eq (F := Ideal) _).trans ?_)
  unfold Result.target
  show Cert.ReferenceIdeal.Read.val_main_v54 (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10))
    (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12))
    (m' ((c.tc : Thread Cert.ReferenceIdeal.nD Cert.ReferenceIdeal.τ).loc Cert.ReferenceIdeal.main_arg13))
    (m' ((c.tc : Thread Cert.ReferenceIdeal.nD Cert.ReferenceIdeal.τ).loc Cert.ReferenceIdeal.main_arg14)) = _
  rw [a0, a1, a2, a3, a4, a5, a6, a7, a8, a9, a10, a11, a12, a13, a14]

theorem claim : Cert.Claim := ⟨Cert.Kernel.Gen.facts, Cert.KernelIdeal.Gen.facts, Cert.ReferenceIdeal.Gen.facts, Cert.Pre_admissible.Gen.facts,
  fun m ρ _ => Cert.Kernel.Gen.frame m ρ, fun m ρ _ => Cert.KernelIdeal.Gen.frame m ρ, fun m ρ _ => Cert.KernelIdeal.Gen.frame m ρ,
  quiescent_reference, fun m ρ _ => quiescent_reference m ρ trivial, trivial, algebraic⟩

end Cert.Proof

end
